-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93_0) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v93_1) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S9x4096x2048 : Shape := ⟨3, ![9, 4096, 2048]⟩
abbrev S2048 : Shape := ⟨1, ![2048]⟩
abbrev S36864x2048 : Shape := ⟨2, ![36864, 2048]⟩
abbrev S1x2048 : Shape := ⟨2, ![1, 2048]⟩
abbrev S256x256 : Shape := ⟨2, ![256, 256]⟩
abbrev S_ : Shape := ⟨0, ![]⟩
abbrev S16x36864 : Shape := ⟨2, ![16, 36864]⟩
abbrev S2048x36864 : Shape := ⟨2, ![2048, 36864]⟩
abbrev S288x2048 : Shape := ⟨2, ![288, 2048]⟩
abbrev S288x128 : Shape := ⟨2, ![288, 128]⟩
abbrev S256x2048 : Shape := ⟨2, ![256, 2048]⟩
abbrev S16x256 : Shape := ⟨2, ![16, 256]⟩
abbrev S2048x256 : Shape := ⟨2, ![2048, 256]⟩
abbrev S8x2048 : Shape := ⟨2, ![8, 2048]⟩
abbrev S8x128 : Shape := ⟨2, ![8, 128]⟩
abbrev S256x128 : Shape := ⟨2, ![256, 128]⟩
abbrev S2x2048 : Shape := ⟨2, ![2, 2048]⟩
abbrev S256x1 : Shape := ⟨2, ![256, 1]⟩
abbrev S256 : Shape := ⟨1, ![256]⟩
abbrev S1x128 : Shape := ⟨2, ![1, 128]⟩
abbrev S128x128 : Shape := ⟨2, ![128, 128]⟩
abbrev S128 : Shape := ⟨1, ![128]⟩
abbrev S16x128 : Shape := ⟨2, ![16, 128]⟩
abbrev S128x1 : Shape := ⟨2, ![128, 1]⟩
abbrev S1x256 : Shape := ⟨2, ![1, 256]⟩
abbrev S128x256 : Shape := ⟨2, ![128, 256]⟩

abbrev nBuf : Space → Nat
  | .hbm => 21
  | .vmem => 21
  | .smem => 0
  | _ => 0

abbrev bufTy : (tb : Table) → Fin (tcTables nBuf tb) → BufTy
  | .hbm, ⟨0, _⟩ => ⟨S9x4096x2048, .bf16⟩
  | .hbm, ⟨1, _⟩ => ⟨S2048, .bf16⟩
  | .hbm, ⟨2, _⟩ => ⟨S2048, .bf16⟩
  | .hbm, ⟨3, _⟩ => ⟨S36864x2048, .bf16⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S256x256, .f32⟩
  | .hbm, ⟨15, _⟩ => ⟨S36864x2048, .fp8e4m3⟩
  | .hbm, ⟨16, _⟩ => ⟨S16x36864, .f32⟩
  | .hbm, ⟨17, _⟩ => ⟨S2048x36864, .fp8e4m3⟩
  | .hbm, ⟨18, _⟩ => ⟨S288x2048, .f32⟩
  | .hbm, ⟨19, _⟩ => ⟨S288x128, .f32⟩
  | .hbm, ⟨20, _⟩ => ⟨S288x128, .f32⟩
  | .local _ .vmem, ⟨0, _⟩ => ⟨S256x2048, .bf16⟩
  | .local _ .vmem, ⟨1, _⟩ => ⟨S256x2048, .bf16⟩
  | .local _ .vmem, ⟨2, _⟩ => ⟨S1x2048, .f32⟩
  | .local _ .vmem, ⟨3, _⟩ => ⟨S1x2048, .f32⟩
  | .local _ .vmem, ⟨4, _⟩ => ⟨S256x256, .f32⟩
  | .local _ .vmem, ⟨5, _⟩ => ⟨S256x2048, .fp8e4m3⟩
  | .local _ .vmem, ⟨6, _⟩ => ⟨S256x2048, .fp8e4m3⟩
  | .local _ .vmem, ⟨7, _⟩ => ⟨S16x256, .f32⟩
  | .local _ .vmem, ⟨8, _⟩ => ⟨S16x256, .f32⟩
  | .local _ .vmem, ⟨9, _⟩ => ⟨S2048x256, .fp8e4m3⟩
  | .local _ .vmem, ⟨10, _⟩ => ⟨S2048x256, .fp8e4m3⟩
  | .local _ .vmem, ⟨11, _⟩ => ⟨S8x2048, .f32⟩
  | .local _ .vmem, ⟨12, _⟩ => ⟨S8x2048, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S256x2048, .f32⟩
  | .local _ .vmem, ⟨18, _⟩ => ⟨S256x2048, .f32⟩
  | .local _ .vmem, ⟨19, _⟩ => ⟨S256x128, .f32⟩
  | .local _ .vmem, ⟨20, _⟩ => ⟨S2x2048, .f32⟩
  | _, _ => ⟨S9x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![144], ![false]⟩

def k0_cond1 (i : grid0.Coords) : BitVec 1 :=
  let arg0 : BitVec 32 := BitVec.ofNat 32 (i 0).val
  let c4_i32 : BitVec 32 := 4#32
  let v0 : BitVec 32 := Scalar.remsi arg0 c4_i32
  let c0_i32_541 : BitVec 32 := 0#32
  let v1684 : BitVec 1 := Scalar.cmpi .eq v0 c0_i32_541
  let v1685 : BitVec 32 := Scalar.extui v1684
  let c0_i32_542 : BitVec 32 := 0#32
  let v1686 : BitVec 1 := Scalar.cmpi .ne v1685 c0_i32_542
  v1686

def k0_cond2 (i : grid0.Coords) : BitVec 1 :=
  let arg0 : BitVec 32 := BitVec.ofNat 32 (i 0).val
  let c4_i32 : BitVec 32 := 4#32
  let v0 : BitVec 32 := Scalar.remsi arg0 c4_i32
  let c1_i32 : BitVec 32 := 1#32
  let v1687 : BitVec 1 := Scalar.cmpi .eq v0 c1_i32
  let v1688 : BitVec 32 := Scalar.extui v1687
  let c0_i32_543 : BitVec 32 := 0#32
  let v1689 : BitVec 1 := Scalar.cmpi .ne v1688 c0_i32_543
  v1689

def k0_cond3 (i : grid0.Coords) : BitVec 1 :=
  let arg0 : BitVec 32 := BitVec.ofNat 32 (i 0).val
  let c4_i32 : BitVec 32 := 4#32
  let v0 : BitVec 32 := Scalar.remsi arg0 c4_i32
  let c2_i32 : BitVec 32 := 2#32
  let v1690 : BitVec 1 := Scalar.cmpi .eq v0 c2_i32
  let v1691 : BitVec 32 := Scalar.extui v1690
  let c0_i32_544 : BitVec 32 := 0#32
  let v1692 : BitVec 1 := Scalar.cmpi .ne v1691 c0_i32_544
  v1692

def k0_cond4 (i : grid0.Coords) : BitVec 1 :=
  let arg0 : BitVec 32 := BitVec.ofNat 32 (i 0).val
  let c4_i32 : BitVec 32 := 4#32
  let v0 : BitVec 32 := Scalar.remsi arg0 c4_i32
  let c3_i32 : BitVec 32 := 3#32
  let v1693 : BitVec 1 := Scalar.cmpi .eq v0 c3_i32
  let v1694 : BitVec 32 := Scalar.extui v1693
  let c0_i32_545 : BitVec 32 := 0#32
  let v1695 : BitVec 1 := Scalar.cmpi .ne v1694 c0_i32_545
  v1695

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S9x4096x2048 : Shape := ⟨3, ![9, 4096, 2048]⟩
abbrev S2048 : Shape := ⟨1, ![2048]⟩
abbrev S36864x2048 : Shape := ⟨2, ![36864, 2048]⟩
abbrev S_ : Shape := ⟨0, ![]⟩
abbrev S36864 : Shape := ⟨1, ![36864]⟩
abbrev S36864x1 : Shape := ⟨2, ![36864, 1]⟩
abbrev S1x2048 : Shape := ⟨2, ![1, 2048]⟩
abbrev S36864x16x128 : Shape := ⟨3, ![36864, 16, 128]⟩
abbrev S36864x16 : Shape := ⟨2, ![36864, 16]⟩
abbrev S253 : Shape := ⟨1, ![253]⟩
abbrev S36864x16x253 : Shape := ⟨3, ![36864, 16, 253]⟩
abbrev S36864x16x1 : Shape := ⟨3, ![36864, 16, 1]⟩
abbrev S2048x36864 : Shape := ⟨2, ![2048, 36864]⟩
abbrev S2048x288x128 : Shape := ⟨3, ![2048, 288, 128]⟩
abbrev S2048x288 : Shape := ⟨2, ![2048, 288]⟩
abbrev S2048x288x253 : Shape := ⟨3, ![2048, 288, 253]⟩
abbrev S2048x288x1 : Shape := ⟨3, ![2048, 288, 1]⟩
abbrev S16x36864 : Shape := ⟨2, ![16, 36864]⟩
abbrev S288x2048 : Shape := ⟨2, ![288, 2048]⟩
abbrev S288x128 : Shape := ⟨2, ![288, 128]⟩

abbrev nBuf : Space → Nat
  | .hbm => 125
  | .vmem => 4
  | .smem => 0
  | _ => 0

abbrev bufTy : (tb : Table) → Fin (tcTables nBuf tb) → BufTy
  | .hbm, ⟨0, _⟩ => ⟨S9x4096x2048, .bf16⟩
  | .hbm, ⟨1, _⟩ => ⟨S2048, .bf16⟩
  | .hbm, ⟨2, _⟩ => ⟨S2048, .bf16⟩
  | .hbm, ⟨3, _⟩ => ⟨S36864x2048, .bf16⟩
  | .hbm, ⟨4, _⟩ => ⟨S36864x2048, .f32⟩
  | .hbm, ⟨5, _⟩ => ⟨S_, .f32⟩
  | .hbm, ⟨6, _⟩ => ⟨S36864, .f32⟩
  | .hbm, ⟨7, _⟩ => ⟨S_, .f32⟩
  | .hbm, ⟨8, _⟩ => ⟨S36864, .f32⟩
  | .hbm, ⟨9, _⟩ => ⟨S36864, .f32⟩
  | .hbm, ⟨10, _⟩ => ⟨S36864x1, .f32⟩
  | .hbm, ⟨11, _⟩ => ⟨S36864x2048, .f32⟩
  | .hbm, ⟨12, _⟩ => ⟨S36864x2048, .f32⟩
  | .hbm, ⟨13, _⟩ => ⟨S36864x2048, .f32⟩
  | .hbm, ⟨14, _⟩ => ⟨S_, .f32⟩
  | .hbm, ⟨15, _⟩ => ⟨S36864, .f32⟩
  | .hbm, ⟨16, _⟩ => ⟨S_, .f32⟩
  | .hbm, ⟨17, _⟩ => ⟨S36864, .f32⟩
  | .hbm, ⟨18, _⟩ => ⟨S36864, .f32⟩
  | .hbm, ⟨19, _⟩ => ⟨S_, .f32⟩
  | .hbm, ⟨20, _⟩ => ⟨S36864, .f32⟩
  | .hbm, ⟨21, _⟩ => ⟨S36864, .f32⟩
  | .hbm, ⟨22, _⟩ => ⟨S36864, .f32⟩
  | .hbm, ⟨23, _⟩ => ⟨S36864x1, .f32⟩
  | .hbm, ⟨24, _⟩ => ⟨S36864x2048, .f32⟩
  | .hbm, ⟨25, _⟩ => ⟨S36864x2048, .f32⟩
  | .hbm, ⟨26, _⟩ => ⟨S2048, .f32⟩
  | .hbm, ⟨27, _⟩ => ⟨S1x2048, .f32⟩
  | .hbm, ⟨28, _⟩ => ⟨S36864x2048, .f32⟩
  | .hbm, ⟨29, _⟩ => ⟨S36864x2048, .f32⟩
  | .hbm, ⟨30, _⟩ => ⟨S2048, .f32⟩
  | .hbm, ⟨31, _⟩ => ⟨S1x2048, .f32⟩
  | .hbm, ⟨32, _⟩ => ⟨S36864x2048, .f32⟩
  | .hbm, ⟨33, _⟩ => ⟨S36864x2048, .f32⟩
  | .hbm, ⟨34, _⟩ => ⟨S36864x16x128, .f32⟩
  | .hbm, ⟨35, _⟩ => ⟨S36864x16x128, .f32⟩
  | .hbm, ⟨36, _⟩ => ⟨S_, .f32⟩
  | .hbm, ⟨37, _⟩ => ⟨S36864x16, .f32⟩
  | .hbm, ⟨38, _⟩ => ⟨S_, .f32⟩
  | .hbm, ⟨39, _⟩ => ⟨S253, .f32⟩
  | .hbm, ⟨40, _⟩ => ⟨S253, .f32⟩
  | .hbm, ⟨41, _⟩ => ⟨S_, .f32⟩
  | .hbm, ⟨42, _⟩ => ⟨S253, .f32⟩
  | .hbm, ⟨43, _⟩ => ⟨S253, .f32⟩
  | .hbm, ⟨44, _⟩ => ⟨S253, .f32⟩
  | .hbm, ⟨45, _⟩ => ⟨S36864x16x253, .f32⟩
  | .hbm, ⟨46, _⟩ => ⟨S_, .f32⟩
  | .hbm, ⟨47, _⟩ => ⟨S36864x16, .f32⟩
  | .hbm, ⟨48, _⟩ => ⟨S36864x16, .f32⟩
  | .hbm, ⟨49, _⟩ => ⟨S36864x16x1, .f32⟩
  | .hbm, ⟨50, _⟩ => ⟨S36864x16x253, .f32⟩
  | .hbm, ⟨51, _⟩ => ⟨S36864x16x253, .i1⟩
  | .hbm, ⟨52, _⟩ => ⟨S_, .f32⟩
  | .hbm, ⟨53, _⟩ => ⟨S36864x16x253, .f32⟩
  | .hbm, ⟨54, _⟩ => ⟨S36864x16x253, .f32⟩
  | .hbm, ⟨55, _⟩ => ⟨S_, .f32⟩
  | .hbm, ⟨56, _⟩ => ⟨S36864x16, .f32⟩
  | .hbm, ⟨57, _⟩ => ⟨S_, .f32⟩
  | .hbm, ⟨58, _⟩ => ⟨S36864x16, .f32⟩
  | .hbm, ⟨59, _⟩ => ⟨S36864x16, .i1⟩
  | .hbm, ⟨60, _⟩ => ⟨S_, .f32⟩
  | .hbm, ⟨61, _⟩ => ⟨S36864x16, .f32⟩
  | .hbm, ⟨62, _⟩ => ⟨S36864x16, .f32⟩
  | .hbm, ⟨63, _⟩ => ⟨S_, .f32⟩
  | .hbm, ⟨64, _⟩ => ⟨S36864x16, .f32⟩
  | .hbm, ⟨65, _⟩ => ⟨S36864x16, .f32⟩
  | .hbm, ⟨66, _⟩ => ⟨S36864x16x1, .f32⟩
  | .hbm, ⟨67, _⟩ => ⟨S36864x16x128, .f32⟩
  | .hbm, ⟨68, _⟩ => ⟨S36864x16x128, .f32⟩
  | .hbm, ⟨69, _⟩ => ⟨S_, .f32⟩
  | .hbm, ⟨70, _⟩ => ⟨S36864x16x128, .f32⟩
  | .hbm, ⟨71, _⟩ => ⟨S36864x16x128, .f32⟩
  | .hbm, ⟨72, _⟩ => ⟨S_, .f32⟩
  | .hbm, ⟨73, _⟩ => ⟨S36864x16x128, .f32⟩
  | .hbm, ⟨74, _⟩ => ⟨S36864x16x128, .f32⟩
  | .hbm, ⟨75, _⟩ => ⟨S36864x2048, .f32⟩
  | .hbm, ⟨76, _⟩ => ⟨S2048x36864, .f32⟩
  | .hbm, ⟨77, _⟩ => ⟨S2048x288x128, .f32⟩
  | .hbm, ⟨78, _⟩ => ⟨S2048x288x128, .f32⟩
  | .hbm, ⟨79, _⟩ => ⟨S_, .f32⟩
  | .hbm, ⟨80, _⟩ => ⟨S2048x288, .f32⟩
  | .hbm, ⟨81, _⟩ => ⟨S_, .f32⟩
  | .hbm, ⟨82, _⟩ => ⟨S253, .f32⟩
  | .hbm, ⟨83, _⟩ => ⟨S253, .f32⟩
  | .hbm, ⟨84, _⟩ => ⟨S_, .f32⟩
  | .hbm, ⟨85, _⟩ => ⟨S253, .f32⟩
  | .hbm, ⟨86, _⟩ => ⟨S253, .f32⟩
  | .hbm, ⟨87, _⟩ => ⟨S253, .f32⟩
  | .hbm, ⟨88, _⟩ => ⟨S2048x288x253, .f32⟩
  | .hbm, ⟨89, _⟩ => ⟨S_, .f32⟩
  | .hbm, ⟨90, _⟩ => ⟨S2048x288, .f32⟩
  | .hbm, ⟨91, _⟩ => ⟨S2048x288, .f32⟩
  | .hbm, ⟨92, _⟩ => ⟨S2048x288x1, .f32⟩
  | .hbm, ⟨93, _⟩ => ⟨S2048x288x253, .f32⟩
  | .hbm, ⟨94, _⟩ => ⟨S2048x288x253, .i1⟩
  | .hbm, ⟨95, _⟩ => ⟨S_, .f32⟩
  | .hbm, ⟨96, _⟩ => ⟨S2048x288x253, .f32⟩
  | .hbm, ⟨97, _⟩ => ⟨S2048x288x253, .f32⟩
  | .hbm, ⟨98, _⟩ => ⟨S_, .f32⟩
  | .hbm, ⟨99, _⟩ => ⟨S2048x288, .f32⟩
  | .hbm, ⟨100, _⟩ => ⟨S_, .f32⟩
  | .hbm, ⟨101, _⟩ => ⟨S2048x288, .f32⟩
  | .hbm, ⟨102, _⟩ => ⟨S2048x288, .i1⟩
  | .hbm, ⟨103, _⟩ => ⟨S_, .f32⟩
  | .hbm, ⟨104, _⟩ => ⟨S2048x288, .f32⟩
  | .hbm, ⟨105, _⟩ => ⟨S2048x288, .f32⟩
  | .hbm, ⟨106, _⟩ => ⟨S_, .f32⟩
  | .hbm, ⟨107, _⟩ => ⟨S2048x288, .f32⟩
  | .hbm, ⟨108, _⟩ => ⟨S2048x288, .f32⟩
  | .hbm, ⟨109, _⟩ => ⟨S2048x288x1, .f32⟩
  | .hbm, ⟨110, _⟩ => ⟨S2048x288x128, .f32⟩
  | .hbm, ⟨111, _⟩ => ⟨S2048x288x128, .f32⟩
  | .hbm, ⟨112, _⟩ => ⟨S_, .f32⟩
  | .hbm, ⟨113, _⟩ => ⟨S2048x288x128, .f32⟩
  | .hbm, ⟨114, _⟩ => ⟨S2048x288x128, .f32⟩
  | .hbm, ⟨115, _⟩ => ⟨S_, .f32⟩
  | .hbm, ⟨116, _⟩ => ⟨S2048x288x128, .f32⟩
  | .hbm, ⟨117, _⟩ => ⟨S2048x288x128, .f32⟩
  | .hbm, ⟨118, _⟩ => ⟨S2048x36864, .f32⟩
  | .hbm, ⟨119, _⟩ => ⟨S16x36864, .f32⟩
  | .hbm, ⟨120, _⟩ => ⟨S288x2048, .f32⟩
  | .hbm, ⟨121, _⟩ => ⟨S288x128, .f32⟩
  | .hbm, ⟨122, _⟩ => ⟨S288x128, .f32⟩
  | .hbm, ⟨123, _⟩ => ⟨S36864x2048, .fp8e4m3⟩
  | .hbm, ⟨124, _⟩ => ⟨S2048x36864, .fp8e4m3⟩
  | .local _ .vmem, ⟨0, _⟩ => ⟨S36864x2048, .f32⟩
  | .local _ .vmem, ⟨1, _⟩ => ⟨S2048x36864, .f32⟩
  | .local _ .vmem, ⟨2, _⟩ => ⟨S36864x2048, .fp8e4m3⟩
  | .local _ .vmem, ⟨3, _⟩ => ⟨S2048x36864, .fp8e4m3⟩
  | _, _ => ⟨S9x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_v53 : Ref sig .tc := ⟨.hbm, 71, rfl⟩
abbrev main_cst_14 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_15 : Ref sig .tc := ⟨.hbm, 79, rfl⟩
abbrev main_v60 : Ref sig .tc := ⟨.hbm, 80, rfl⟩
abbrev main_cst_16 : Ref sig .tc := ⟨.hbm, 81, rfl⟩
abbrev main_v61 : Ref sig .tc := ⟨.hbm, 82, rfl⟩
abbrev main_v62 : Ref sig .tc := ⟨.hbm, 83, rfl⟩
abbrev main_cst_17 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_18 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_19 : Ref sig .tc := ⟨.hbm, 95, rfl⟩
abbrev main_v72 : Ref sig .tc := ⟨.hbm, 96, rfl⟩
abbrev main_v73 : Ref sig .tc := ⟨.hbm, 97, rfl⟩
abbrev main_cst_20 : Ref sig .tc := ⟨.hbm, 98, rfl⟩
abbrev main_v74 : Ref sig .tc := ⟨.hbm, 99, rfl⟩
abbrev main_cst_21 : Ref sig .tc := ⟨.hbm, 100, rfl⟩
abbrev main_v75 : Ref sig .tc := ⟨.hbm, 101, rfl⟩
abbrev main_v76 : Ref sig .tc := ⟨.hbm, 102, rfl⟩
abbrev main_cst_22 : Ref sig .tc := ⟨.hbm, 103, rfl⟩
abbrev main_v77 : Ref sig .tc := ⟨.hbm, 104, rfl⟩
abbrev main_v78 : Ref sig .tc := ⟨.hbm, 105, rfl⟩
abbrev main_cst_23 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_24 : Ref sig .tc := ⟨.hbm, 112, rfl⟩
abbrev main_v84 : Ref sig .tc := ⟨.hbm, 113, rfl⟩
abbrev main_v85 : Ref sig .tc := ⟨.hbm, 114, rfl⟩
abbrev main_cst_25 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93_0 : Ref sig .tc := ⟨.hbm, 123, rfl⟩
abbrev main_v93_1 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S36864x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x36864 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36864x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x36864 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Same.lean ====
module

public import proofs.«01_k».proof.Proof.Gen.Kernel.Launch
public import proofs.«01_k».proof.Proof.Gen.KernelIdeal.Launch

@[expose] public section

set_option maxRecDepth 100000

/-! The kernel and its idealization are one program under two names: no operation was rewritten. So a run of
    the one is a run of the other, for any float operations. -/

namespace Cert.Same

open Idealize.ShloMosaic

variable {F : FTy → Type} [FloatOps F]

theorem main_eq : @Cert.Kernel.main F _ _ = @Cert.KernelIdeal.main F _ _ := rfl

theorem defs₀_eq : @Cert.Kernel.defs₀ F _ _ = @Cert.KernelIdeal.defs₀ F _ _ := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l, a with
  | 0, (t, s) => rfl
  | ⟨_ + 1, h⟩, _ => exact absurd h (Nat.not_lt.2 (Nat.le_add_left _ _))

theorem defs_eq : @Cert.Kernel.defs F _ _ = @Cert.KernelIdeal.defs F _ _ := by
  show Pipeline.defs Cert.Kernel.pcfgs _ = Pipeline.defs Cert.Kernel.pcfgs _
  rw [defs₀_eq]

end Cert.Same

end
-- ==== Proof.Points.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points ≡ 1 (mod 4) — decided over the grid. -/
theorem hcond0_1 : ∀ t : Fin cfg0.N, cond0_1 (grid0.coords t) ↔ t.val % 4 = 1 :=
  (by decide +kernel : ∀ t : Fin grid0.N, cond0_1 (grid0.coords t) ↔ t.val % 4 = 1)

/-- The condition of the body's `scf.if` 2 (`k0_h3`), from the grid coordinates (the skeleton's scalar
    chain substituted). -/
abbrev cond0_2 (i : grid0.Coords) : Prop := k0_cond3 i = 1#1
/-- It holds at the points ≡ 2 (mod 4) — decided over the grid. -/
theorem hcond0_2 : ∀ t : Fin cfg0.N, cond0_2 (grid0.coords t) ↔ t.val % 4 = 2 :=
  (by decide +kernel : ∀ t : Fin grid0.N, cond0_2 (grid0.coords t) ↔ t.val % 4 = 2)

/-- The condition of the body's `scf.if` 3 (`k0_h4`), from the grid coordinates (the skeleton's scalar
    chain substituted). -/
abbrev cond0_3 (i : grid0.Coords) : Prop := k0_cond4 i = 1#1
/-- It holds at the points ≡ 3 (mod 4) — decided over the grid. -/
theorem hcond0_3 : ∀ t : Fin cfg0.N, cond0_3 (grid0.coords t) ↔ t.val % 4 = 3 :=
  (by decide +kernel : ∀ t : Fin grid0.N, cond0_3 (grid0.coords t) ↔ t.val % 4 = 3)

/-! ## The kernel body on any staging memrefs: a subtype the run finds -/

/-- Each window's current staging memref at point `t`, spelled as the pipeline passes it (`bodyAt0`), and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x2048 .f32 := Memref.whole cc0_scratch0
abbrev scM0_1 : Memref sig .tc .vmem S256x2048 .f32 := Memref.whole cc0_scratch1
abbrev scM0_2 : Memref sig .tc .vmem S256x128 .f32 := Memref.whole cc0_scratch2
abbrev scM0_3 : Memref sig .tc .vmem S2x2048 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Own

end
-- ==== Proof.Block.lean ====
module

public import proofs.«01_k».proof.Proof.Points
public import Idealize.ShloMosaic.Lib.Pipeline.Value

@[expose] public section

set_option maxRecDepth 16384

noncomputable section

/-! What the body computes from one block of 256 rows, written once for every column group, row tile and
    chunk: the body's own operations, with the group, tile or chunk a variable. Nothing here is mathematics
    yet: any float operations will do. -/

namespace Cert.KernelIdeal.Own

open Idealize.ShloMosaic Idealize.ShloMosaic.TcCoe
open Cert.KernelIdeal.Gen

variable {F : FTy → Type} [FloatOps F]

/-! ## Lists of stores, the last one first -/

/-- The list of `n` stores `f 0, …, f (n-1)`, the last one first. -/
def stores {α : Type} : (n : ℕ) → (Fin n → α) → List α
  | 0, _ => []
  | n + 1, f => f (Fin.last n) :: stores n (fun i => f i.castSucc)

theorem mem_stores {α : Type} {n : ℕ} {f : Fin n → α} {p : α} : p ∈ stores n f ↔ ∃ i, p = f i := by
  induction n with
  | zero => simp [stores]
  | succ n ih => simp only [stores, List.mem_cons, ih, Fin.exists_fin_succ', or_comm]

/-! ## The boxes -/

theorem inb8 (c : Fin 8) : ∀ a, (![0, 256 * c.val] : Fin 2 → ℕ) a + S256x256.size a ≤ S256x2048.size a := by
  intro a; fin_cases a <;> simp <;> omega
theorem inb8r (c : Fin 8) : ∀ a, (![256 * c.val, 0] : Fin 2 → ℕ) a + S256x256.size a ≤ S2048x256.size a := by
  intro a; fin_cases a <;> simp <;> omega
theorem inb16 (g : Fin 16) : ∀ a, (![0, 128 * g.val] : Fin 2 → ℕ) a + S256x128.size a ≤ S256x2048.size a := by
  intro a; fin_cases a <;> simp <;> omega
theorem inb16r (g : Fin 16) : ∀ a, (![0, 128 * g.val] : Fin 2 → ℕ) a + S1x128.size a ≤ S1x2048.size a := by
  intro a; fin_cases a <;> simp <;> omega
theorem inbAm (g : Fin 16) : ∀ a, (![0, g.val] : Fin 2 → ℕ) a + S256x1.size a ≤ S256x128.size a := by
  intro a; fin_cases a <;> simp <;> omega
theorem inbAl (t : Fin 2) : ∀ a, (![128 * t.val, 0] : Fin 2 → ℕ) a + S128x128.size a ≤ S256x128.size a := by
  intro a; fin_cases a <;> simp <;> omega
theorem inbCm (n : Fin 32) : ∀ a, (![n.val % 2, 128 * (n.val / 2)] : Fin 2 → ℕ) a + S1x128.size a ≤ S2x2048.size a := by
  intro a; fin_cases a <;> simp <;> omega
theorem inbRs (t : Fin 2) : ∀ a, (![0, 128 * t.val] : Fin 2 → ℕ) a + S16x128.size a ≤ S16x256.size a := by
  intro a; fin_cases a <;> simp <;> omega
theorem inbCs (k : Fin 4) : ∀ a, (![2 * k.val, 0] : Fin 2 → ℕ) a + S2x2048.size a ≤ S8x2048.size a := by
  intro a; fin_cases a <;> simp <;> omega
theorem inbLn (k : Fin 4) (t : Fin 2) : ∀ a, (![2 * k.val + t.val, 0] : Fin 2 → ℕ) a + S1x128.size a ≤ S8x128.size a := by
  intro a; fin_cases a <;> simp <;> omega

/-- The columns `256 c … 256 c + 255`. -/
abbrev box8 (c : Fin 8) : Rect S256x2048 := Rect.unit (s := S256x2048) ![0, 256 * c.val] S256x256.size (inb8 c)
/-- The rows `256 c … 256 c + 255` of the transposed block. -/
abbrev box8r (c : Fin 8) : Rect S2048x256 := Rect.unit (s := S2048x256) ![256 * c.val, 0] S256x256.size (inb8r c)
/-- The columns `128 g … 128 g + 127`. -/
abbrev box16 (g : Fin 16) : Rect S256x2048 := Rect.unit (s := S256x2048) ![0, 128 * g.val] S256x128.size (inb16 g)
/-- The same columns of a single row. -/
abbrev box16r (g : Fin 16) : Rect S1x2048 := Rect.unit (s := S1x2048) ![0, 128 * g.val] S1x128.size (inb16r g)
/-- Column `g` of the row maxima. -/
abbrev boxAm (g : Fin 16) : Rect S256x128 := Rect.unit (s := S256x128) ![0, g.val] S256x1.size (inbAm g)
/-- The rows `128 t … 128 t + 127` of the row maxima. -/
abbrev boxAl (t : Fin 2) : Rect S256x128 := Rect.unit (s := S256x128) ![128 * t.val, 0] S128x128.size (inbAl t)
/-- Row `n % 2`, columns of group `n / 2`, of the column maxima. -/
abbrev boxCm (n : Fin 32) : Rect S2x2048 := Rect.unit (s := S2x2048) ![n.val % 2, 128 * (n.val / 2)] S1x128.size (inbCm n)
/-- The columns `128 t … 128 t + 127` of the row scales. -/
abbrev boxRs (t : Fin 2) : Rect S16x256 := Rect.unit (s := S16x256) ![0, 128 * t.val] S16x128.size (inbRs t)
/-- The rows `2 k, 2 k + 1` of the column scales. -/
abbrev boxCs (k : Fin 4) : Rect S8x2048 := Rect.unit (s := S8x2048) ![2 * k.val, 0] S2x2048.size (inbCs k)
/-- The row `2 k + t` of a line output. -/
abbrev boxLn (k : Fin 4) (t : Fin 2) : Rect S8x128 := Rect.unit (s := S8x128) ![2 * k.val + t.val, 0] S1x128.size (inbLn k t)

/-! ## The row statistics -/

/-- Eight row-sum columns added up, from zero. -/
def accum : (n : ℕ) → (Fin n → FVec F S256x1 .f32) → FVec F S256x1 .f32
  | 0, _ => broadcast S256x1 (Scalar.ofBits .f32 0x00000000#32)
  | n + 1, f => addf (accum n (fun i => f i.castSucc)) (f (Fin.last n))

/-- The row sums of a chunk of 256 columns. -/
def rowSum (v : FVec F S256x256 .f32) : FVec F S256x1 .f32 :=
  shapeCast S256x1 (multiReduction .add [1] S256 v 0x00000000#32 reduces_S256x256_S256 (.inl rfl) rfl) shapeCasts_S256_S256x1

/-- A chunk of the input, widened. -/
def wide (v : Vec F S256x256 .bf16) : FVec F S256x256 .f32 :=
  extf .f32 (shapeCast S256x256 v shapeCasts_S256x256_S256x256 : FVec F S256x256 .bf16) bitsLt_bf16_f32

/-- The row means. -/
def muT (X : Fin 8 → Vec F S256x256 .bf16) : FVec F S256x1 .f32 :=
  mulf (accum 8 (fun c => rowSum (wide (X c)))) (broadcast S256x1 (Scalar.ofBits .f32 0x3A000000#32))

/-- A chunk's distances from the mean. -/
def devT (X : Fin 8 → Vec F S256x256 .bf16) (c : Fin 8) : FVec F S256x256 .f32 :=
  subf (wide (X c)) (broadcastTo S256x256 (muT X) broadcasts_S256x1_S256x256)

/-- The reciprocal roots of the row variances. -/
def rsT (X : Fin 8 → Vec F S256x256 .bf16) : FVec F S256x1 .f32 :=
  rsqrt (addf (mulf (accum 8 (fun c => rowSum (mulf (devT X c) (devT X c)))) (broadcast S256x1 (Scalar.ofBits .f32 0x3A000000#32)))
    (broadcast S256x1 (Scalar.ofBits .f32 0x3727C5AC#32)))

/-! ## The normalised values of a column group -/

/-- The affine part on a group: from the row means, the row factors, the group's inputs and its two parameter rows. -/
def affT (mu rs : FVec F S256x1 .f32) (x : Vec F S256x128 .bf16) (ga be : Vec F S1x128 .f32) : FVec F S256x128 .f32 :=
  addf (mulf (mulf (subf (extf .f32 (shapeCast S256x128 x shapeCasts_S256x128_S256x128 : FVec F S256x128 .bf16) bitsLt_bf16_f32)
        (broadcastTo S256x128 mu broadcasts_S256x1_S256x128)) (broadcastTo S256x128 rs broadcasts_S256x1_S256x128))
      (broadcastTo S256x128 (shapeCast S1x128 ga shapeCasts_S1x128_S1x128 : FVec F S1x128 .f32) broadcasts_S1x128_S256x128))
    (broadcastTo S256x128 (shapeCast S1x128 be shapeCasts_S1x128_S1x128 : FVec F S1x128 .f32) broadcasts_S1x128_S256x128)

/-- The largest magnitude of each row of a group. -/
def rmT (y : FVec F S256x128 .f32) : FVec F S256x1 .f32 :=
  shapeCast S256x1 (multiReduction .maximumf [1] S256 (absf y) 0xFF800000#32 reduces_S256x128_S256 (.inl rfl) rfl) shapeCasts_S256_S256x1

theorem slcT (t : Fin 2) : Shape.Slices S256x128 ![128 * t.val, 0] S128x128 := by
  fin_cases t
  · exact slices_S256x128_o0_0_S128x128
  · exact slices_S256x128_o128_0_S128x128

/-- The largest magnitude of each column of a group over 128 rows. -/
def cmT (y : FVec F S256x128 .f32) (t : Fin 2) : FVec F S1x128 .f32 :=
  shapeCast S1x128 (multiReduction .maximumf [0] S128 (extractStridedSlice S128x128 ![128 * t.val, 0] (absf y) (slcT t)) 0xFF800000#32
    reduces_S128x128_S128 (.inl rfl) rfl) shapeCasts_S128_S1x128

/-! ## The power of two of an amax -/

/-- One step of the search for the exponent: set the bit if the power stays at most the value. -/
def stepT {s : Shape} (v : FVec F s .f32) (w : BitVec 32) (b : IVec s 32) : IVec s 32 :=
  select (cmpf .ole (bitcastToFloat .f32 (addi b (broadcast s w))) v) (addi b (broadcast s w)) b

/-- The exponent bits found for `amax / 448`. -/
def bitsT {s : Shape} (a : FVec F s .f32) : IVec s 32 :=
  let v := mulf a (broadcast s (Scalar.ofBits .f32 0x3B124925#32))
  stepT v 8388608#32 (stepT v 16777216#32 (stepT v 33554432#32 (stepT v 67108864#32 (stepT v 134217728#32
    (stepT v 268435456#32 (stepT v 528482304#32 (stepT v 1056964608#32 (broadcast s 0#32))))))))

/-- The factor a value is multiplied by before the cast. -/
def invT {s : Shape} (a : FVec F s .f32) : FVec F s .f32 :=
  bitcastToFloat .f32 (subi (broadcast s 2122317824#32) (bitsT a))

/-- The scale stored. -/
def scaleT {s : Shape} (a : FVec F s .f32) : FVec F s .f32 :=
  select (cmpf .oeq a (broadcast s (Scalar.ofBits .f32 0x00000000#32))) (broadcast s (Scalar.ofBits .f32 0x3F800000#32))
    (bitcastToFloat .f32 (addi (bitsT a) (broadcast s 8388608#32)))

/-- The row factors of a group, over its columns. -/
def riT (y : FVec F S256x128 .f32) : FVec F S256x128 .f32 :=
  broadcastTo S256x128 (shapeCast S256x1 (invT (rmT y)) shapeCasts_S256x1_S256x1 : FVec F S256x1 .f32) broadcasts_S256x1_S256x128

/-- Held between -448 and 448. -/
def clipT {s : Shape} (v : FVec F s .f32) : FVec F s .f32 :=
  minimumf (broadcast s (Scalar.ofBits .f32 0x43E00000#32)) (maximumf (broadcast s (Scalar.ofBits .f32 0xC3E00000#32)) v)

/-- The codes of an array already multiplied. -/
def codeT {s : Shape} (v : FVec F s .f32) : FVec F s .fp8e4m3 := truncf .fp8e4m3 (clipT v) bitsLt_fp8e4m3_f32

theorem slcI (c : Fin 8) (t : Fin 2) : Shape.Slices S2x2048 ![t.val, 256 * c.val] S1x256 :=
  ⟨by decide, by intro a; fin_cases a <;> simp <;> omega⟩

theorem slcY (t : Fin 2) : Shape.Slices S256x256 ![128 * t.val, 0] S128x256 := by
  fin_cases t
  · exact slices_S256x256_o0_0_S128x256
  · exact slices_S256x256_o128_0_S128x256

/-- The column codes of a chunk, over the rows of one tile. -/
def halfT (y : Vec F S256x256 .f32) (iv : FVec F S2x2048 .f32) (c : Fin 8) (t : Fin 2) : FVec F S128x256 .fp8e4m3 :=
  codeT (mulf (extractStridedSlice S128x256 ![128 * t.val, 0] (y : FVec F S256x256 .f32) (slcY t))
    (broadcastTo S128x256 (extractStridedSlice S1x256 ![t.val, 256 * c.val] iv (slcI c t)) broadcasts_S1x256_S128x256))

/-- The column codes of a chunk, turned over by the product with the identity. -/
def turnT (e : Vec F S256x256 .f32) (y : Vec F S256x256 .f32) (iv : FVec F S2x2048 .f32) (c : Fin 8) : FVec F S256x256 .fp8e4m3 :=
  truncf .fp8e4m3 (matmul dot_S256x256_S256x256_S256x256_1_1_0_0_n_n none
    (truncf .fp8e4m3 (shapeCast S256x256 e shapeCasts_S256x256_S256x256 : FVec F S256x256 .f32) bitsLt_fp8e4m3_f32)
    (concatenate S256x256 0 [⟨S128x256, halfT y iv c 0⟩, ⟨S128x256, halfT y iv c 1⟩] concatenates_S128x256_S128x256_S256x256_d0)
    (constant S256x256 .f32 0x00000000#32)) bitsLt_fp8e4m3_f32

theorem slcL (t : Fin 2) : Shape.Slices S256x1 ![128 * t.val, 0] S128x1 := by
  fin_cases t
  · exact slices_S256x1_o0_0_S128x1
  · exact slices_S256x1_o128_0_S128x1

/-- A column of 256 values as two lines of 128. -/
def lineT (v : FVec F S256x1 .f32) (t : Fin 2) : FVec F S1x128 .f32 :=
  extractStridedSlice S1x128 ![0, 0] (transpose S128x128 [1, 0] (broadcastTo S128x128
    (shapeCast S128x1 (extractStridedSlice S128x1 ![128 * t.val, 0] v (slcL t)) shapeCasts_S128x1_S128x1 : FVec F S128x1 .f32)
    broadcasts_S128x1_S128x128) transposes_S128x128_p1_0_S128x128) slices_S128x128_o0_0_S1x128

/-- The scales of one tile of rows, one line for each group. -/
def rowScT (a : Vec F S128x128 .f32) : FVec F S16x128 .f32 :=
  extractStridedSlice S16x128 ![0, 0] (transpose S128x128 [1, 0] (scaleT (s := S128x128) a) transposes_S128x128_p1_0_S128x128)
    slices_S128x128_o0_0_S16x128

/-! ## The stores -/

/-- What the body reads of its four inputs: the chunks and groups of the block, the groups of the two
    parameter rows. -/
structure Reads (F : FTy → Type) where
  X8 : Fin 8 → Vec F S256x256 .bf16
  X16 : Fin 16 → Vec F S256x128 .bf16
  Ga : Fin 16 → Vec F S1x128 .f32
  Be : Fin 16 → Vec F S1x128 .f32

/-- The normalised values of a group. -/
def yT (R : Reads F) (g : Fin 16) : FVec F S256x128 .f32 := affT (muT R.X8) (rsT R.X8) (R.X16 g) (R.Ga g) (R.Be g)

/-- The stores of the normalised values. -/
def yL (R : Reads F) : List (View.Piece (Elt F) S256x2048 .f32) :=
  stores 16 fun g => ⟨box16 g, shapeCast S256x128 (yT R g) shapeCasts_S256x128_S256x128⟩
/-- The stores of the row factors. -/
def riL (R : Reads F) : List (View.Piece (Elt F) S256x2048 .f32) :=
  stores 16 fun g => ⟨box16 g, shapeCast S256x128 (riT (yT R g)) shapeCasts_S256x128_S256x128⟩
/-- The stores of the row maxima. -/
def amL (R : Reads F) : List (View.Piece (Elt F) S256x128 .f32) :=
  stores 16 fun g => ⟨boxAm g, shapeCast S256x1 (rmT (yT R g)) shapeCasts_S256x1_S256x1⟩
/-- The stores of the column maxima. -/
def cmL (R : Reads F) : List (View.Piece (Elt F) S2x2048 .f32) :=
  stores 32 fun n => ⟨boxCm n, shapeCast S1x128 (cmT (yT R ⟨n.val / 2, by omega⟩) ⟨n.val % 2, by omega⟩) shapeCasts_S1x128_S1x128⟩

/-- The stores of the row codes, from the normalised values and the row factors read back. -/
def rcL (v11 v12 : View sig .tc .vmem S256x2048 .f32) (R : Reads F) : List (View.Piece (Elt F) S256x2048 .fp8e4m3) :=
  stores 8 fun c => ⟨box8 c, codeT (mulf (v11.readCov (yL R) (box8 c).toLoadRect : Vec F S256x256 .f32) (v12.readCov (riL R) (box8 c).toLoadRect : Vec F S256x256 .f32))⟩
/-- The stores of the row scales, from the row maxima read back. -/
def rsL (v13 : View sig .tc .vmem S256x128 .f32) (f : v13.ty.Contents (Elt F)) (R : Reads F) : List (View.Piece (Elt F) S16x256 .f32) :=
  stores 2 fun t => ⟨boxRs t, rowScT (v13.readAt (Elt F) (boxAl t).toLoadRect (v13.writes (Elt F) f (amL R)) : Vec F S128x128 .f32)⟩
/-- The whole array of column maxima. -/
abbrev boxAll : Rect S2x2048 := Rect.unit (s := S2x2048) ![0, 0] S2x2048.size inb_S2x2048_S2x2048_0_0
/-- The identity, whole. -/
abbrev boxE : Rect S256x256 := Rect.unit (s := S256x256) ![0, 0] S256x256.size inb_S256x256_S256x256_0_0
/-- The column maxima read back. -/
def cmR (v14 : View sig .tc .vmem S2x2048 .f32) (R : Reads F) : FVec F S2x2048 .f32 := (v14.readCov (cmL R) boxAll.toLoadRect : Vec F S2x2048 .f32)
/-- The stores of the column codes. -/
def ccL (v11 : View sig .tc .vmem S256x2048 .f32) (v14 : View sig .tc .vmem S2x2048 .f32) (R : Reads F) (e : Vec F S256x256 .f32) :
    List (View.Piece (Elt F) S2048x256 .fp8e4m3) :=
  stores 8 fun c => ⟨box8r c, turnT e (v11.readCov (yL R) (box8 c).toLoadRect : Vec F S256x256 .f32) (invT (cmR v14 R)) c⟩
/-- The store of the column scales at a point of residue `k`. -/
def csL (k : Fin 4) (v14 : View sig .tc .vmem S2x2048 .f32) (R : Reads F) : List (View.Piece (Elt F) S8x2048 .f32) :=
  stores 1 fun _ => ⟨boxCs k, scaleT (cmR v14 R)⟩
/-- The stores of a line output at a point of residue `k`. -/
def lnL (k : Fin 4) (v : FVec F S256x1 .f32) : List (View.Piece (Elt F) S8x128 .f32) :=
  stores 2 fun t => ⟨boxLn k t, lineT v t⟩

end Cert.KernelIdeal.Own

end
-- ==== Proof.Contents.lean ====
module

public import proofs.«01_k».proof.Proof.Block
public import Idealize.ShloMosaic.Lib.PointwiseCore

@[expose] public section

set_option maxRecDepth 16384

noncomputable section

/-! The lists of stores read back: each buffer the body fills holds one function of the block it was given. -/

namespace Cert.KernelIdeal.Own

open Idealize.ShloMosaic Idealize.ShloMosaic.TcCoe
open Cert.KernelIdeal.Gen

variable {F : FTy → Type} [FloatOps F]

/-- The group of a column, and its place in the group. -/
def grp (j : Fin 2048) : Fin 16 := ⟨j.val / 128, by omega⟩
def lane (j : Fin 2048) : Fin 128 := ⟨j.val % 128, by omega⟩

/-- The normalised values of the block. -/
def yB (R : Reads F) : Vec F S256x2048 .f32 := fun i => yT R (grp (i 1)) (ix2 (i 0) (lane (i 1)))
/-- The row factors over the block. -/
def riB (R : Reads F) : Vec F S256x2048 .f32 := fun i => riT (yT R (grp (i 1))) (ix2 (i 0) (lane (i 1)))
/-- The row maxima (the first sixteen columns are the groups). -/
def amB (R : Reads F) : Vec F S256x128 .f32 := fun i => rmT (yT R ⟨(i 1).val % 16, by omega⟩) (ix2 (i 0) 0)
/-- The column maxima of the two row tiles. -/
def cmB (R : Reads F) : FVec F S2x2048 .f32 := fun i => cmT (yT R (grp (i 1))) (i 0) (ix2 0 (lane (i 1)))

/-- A list of stores that all write the one function `G`, read at a place that one of them covers. -/
theorem canon_stores {n : ℕ} {e : EltTy} {s : Shape} (f : Fin n → View.Piece (Elt F) s e) (G : s.Idx → Elt F e)
    (h : ∀ i, ∀ x : (f i).1.shape.Idx, (f i).2 x = G ((f i).1.emb x)) (y : s.Idx) (i : Fin n) (hy : y ∈ (f i).1.set) :
    View.canon (stores n f) y = G y :=
  View.canon_apply_of_pieces G _ (fun p hp => by obtain ⟨i, rfl⟩ := mem_stores.1 hp; exact h i) y ⟨f i, mem_stores.2 ⟨i, rfl⟩, hy⟩

theorem read_stores {n : ℕ} {e : EltTy} {s : Shape} (v : View sig .tc .vmem s e) (c : v.ty.Contents (Elt F))
    (f : Fin n → View.Piece (Elt F) s e) (G : s.Idx → Elt F e)
    (h : ∀ i, ∀ x : (f i).1.shape.Idx, (f i).2 x = G ((f i).1.emb x)) (y : s.Idx) (i : Fin n) (hy : y ∈ (f i).1.set) :
    v.read (Elt F) (v.writes (Elt F) c (stores n f)) y = G y :=
  View.read_writes_apply_of_pieces _ _ G _ (fun p hp => by obtain ⟨i, rfl⟩ := mem_stores.1 hp; exact h i) y ⟨f i, mem_stores.2 ⟨i, rfl⟩, hy⟩

section
attribute [local irreducible] yT rmT cmT riT

theorem mem_box16 (y : S256x2048.Idx) : y ∈ (box16 (grp (y 1))).set := by
  rw [Rect.mem_set_unit]; intro a; fin_cases a
  · have := (y 0).isLt; simp at this ⊢; omega
  · simp [grp]; omega
theorem box16_0 (g : Fin 16) (x : S256x128.Idx) : (box16 g).emb x 0 = x 0 := by
  apply Fin.ext; show 0 + 1 * (x 0).val = _; omega
theorem box16_grp (g : Fin 16) (x : S256x128.Idx) : grp ((box16 g).emb x 1) = g := by
  apply Fin.ext; show (128 * g.val + 1 * (x 1).val) / 128 = _; have : (x 1).val < 128 := (x 1).isLt; omega
theorem box16_lane (g : Fin 16) (x : S256x128.Idx) : lane ((box16 g).emb x 1) = x 1 := by
  apply Fin.ext; show (128 * g.val + 1 * (x 1).val) % 128 = _; have : (x 1).val < 128 := (x 1).isLt; omega

theorem canon_yL (R : Reads F) : View.canon (yL R) = yB R := by
  unfold yL
  funext y
  refine canon_stores _ (yB R) (fun g x => ?_) y (grp (y 1)) ?_
  · skip
    show shapeCast S256x128 (yT R g) _ x = yT R (grp ((box16 g).emb x 1)) (ix2 ((box16 g).emb x 0) (lane ((box16 g).emb x 1)))
    rw [shapeCast_self, box16_0, box16_grp, box16_lane]; exact congrArg _ (eq_ix2 x)
  · skip
    exact mem_box16 y

theorem canon_riL (R : Reads F) : View.canon (riL R) = riB R := by
  unfold riL
  funext y
  refine canon_stores _ (riB R) (fun g x => ?_) y (grp (y 1)) ?_
  · skip
    show shapeCast S256x128 (riT (yT R g)) _ x = riT (yT R (grp ((box16 g).emb x 1))) (ix2 ((box16 g).emb x 0) (lane ((box16 g).emb x 1)))
    rw [shapeCast_self, box16_0, box16_grp, box16_lane]; exact congrArg _ (eq_ix2 x)
  · skip
    exact mem_box16 y

/-- Row `n % 2` of group `n / 2` is the store of that number. -/
theorem canon_cmL (R : Reads F) : View.canon (cmL R) = cmB R := by
  unfold cmL
  funext y
  refine canon_stores (e := .f32) _ (cmB R) (fun n x => ?_) y (⟨2 * (grp (y 1)).val + (y 0).val, by have : (y 0).val < 2 := (y 0).isLt; have := (grp (y 1)).isLt; omega⟩ : Fin 32) ?_
  · skip
    have h0 : (x 0).val = 0 := by have : (x 0).val < 1 := (x 0).isLt; omega
    have h1 : (x 1).val < 128 := (x 1).isLt
    have e0 : (boxCm n).emb x 0 = (⟨n.val % 2, by omega⟩ : Fin 2) := by
      apply Fin.ext; show n.val % 2 + 1 * (x 0).val = n.val % 2; omega
    have e1 : grp ((boxCm n).emb x 1) = ⟨n.val / 2, by omega⟩ := by
      apply Fin.ext; show (128 * (n.val / 2) + 1 * (x 1).val) / 128 = n.val / 2; omega
    have e2 : lane ((boxCm n).emb x 1) = x 1 := by
      apply Fin.ext; show (128 * (n.val / 2) + 1 * (x 1).val) % 128 = _; omega
    show shapeCast S1x128 (cmT (yT R ⟨n.val / 2, by omega⟩) ⟨n.val % 2, by omega⟩) _ x
      = cmT (yT R (grp ((boxCm n).emb x 1))) ((boxCm n).emb x 0) (ix2 0 (lane ((boxCm n).emb x 1)))
    rw [shapeCast_self, e0, e1, e2]
    refine congrArg _ ?_
    rw [eq_ix2 x]; exact Shape.idx_ext₂ h0 rfl
  · skip
    have hy : (y 0).val < 2 := (y 0).isLt
    show y ∈ (boxCm _).set
    rw [Rect.mem_set_unit]; intro a; fin_cases a
    · simp; omega
    · simp [grp]; omega

/-- The row maxima read back at one of the first sixteen columns, whatever was there before. -/
theorem read_amL (v : View sig .tc .vmem S256x128 .f32) (f : v.ty.Contents (Elt F)) (R : Reads F) (y : S256x128.Idx) (hy : (y 1).val < 16) :
    v.read (Elt F) (v.writes (Elt F) f (amL R)) y = amB R y := by
  unfold amL
  refine read_stores _ _ _ (amB R) (fun g x => ?_) y ⟨(y 1).val, hy⟩ ?_
  · skip
    have h1 : (x 1).val = 0 := by have : (x 1).val < 1 := (x 1).isLt; omega
    have e0 : (boxAm g).emb x 0 = x 0 := by apply Fin.ext; show 0 + 1 * (x 0).val = _; omega
    have e1 : ((boxAm g).emb x 1).val = g.val := by show g.val + 1 * (x 1).val = _; omega
    have e2 : (⟨((boxAm g).emb x 1).val % 16, by omega⟩ : Fin 16) = g := by apply Fin.ext; simp only [e1]; omega
    show shapeCast S256x1 (rmT (yT R g)) _ x = rmT (yT R ⟨((boxAm g).emb x 1).val % 16, by omega⟩) (ix2 ((boxAm g).emb x 0) 0)
    rw [shapeCast_self, e0, e2]
    refine congrArg _ ?_
    rw [eq_ix2 x]; exact Shape.idx_ext₂ rfl h1
  · skip
    have h0 : (y 0).val < 256 := (y 0).isLt
    show y ∈ (boxAm _).set
    rw [Rect.mem_set_unit]; intro a; fin_cases a
    · simp; omega
    · simp

end

/-! ## The outputs -/

/-- The row codes of the block. -/
def rcB (R : Reads F) : Vec F S256x2048 .fp8e4m3 := codeT (s := S256x2048) (mulf (yB R : FVec F S256x2048 .f32) (riB R))
/-- The row scales of the block, group by row. -/
def rsB (R : Reads F) : Vec F S16x256 .f32 := fun i => scaleT (rmT (yT R (i 0))) (ix2 (i 1) 0)
/-- A chunk of the normalised values. -/
def yC (R : Reads F) (c : Fin 8) : Vec F S256x256 .f32 := fun j => yB R ((box8 c).emb j)
/-- The column codes of the block, column by row. -/
def ccB (R : Reads F) (e : Vec F S256x256 .f32) : Vec F S2048x256 .fp8e4m3 := fun i =>
  turnT e (yC R ⟨(i 0).val / 256, by have : (i 0).val < 2048 := (i 0).isLt; omega⟩) (invT (cmB R)) ⟨(i 0).val / 256, by have : (i 0).val < 2048 := (i 0).isLt; omega⟩
    (ix2 ⟨(i 0).val % 256, by omega⟩ (i 1))
/-- Two lines put at the rows `2 k, 2 k + 1` of an array of eight. -/
def put {α : Type} {n : ℕ} (k : ℕ) (new : Fin 2 → Fin n → α) (old : (⟨2, ![8, n]⟩ : Shape).Idx → α) : (⟨2, ![8, n]⟩ : Shape).Idx → α :=
  fun i => if (i 0).val / 2 = k then new ⟨(i 0).val % 2, by omega⟩ (i 1) else old i

/-- One step of the search looks at its own place only. -/
theorem stepT_at {s t : Shape} {v : FVec F s .f32} {v' : FVec F t .f32} {b : IVec s 32} {b' : IVec t 32} (w : BitVec 32) {i : s.Idx} {j : t.Idx}
    (hv : v i = v' j) (hb : b i = b' j) : stepT v w b i = stepT v' w b' j := by
  show Scalar.select (FloatOps.cmpf .ole (FloatOps.ofBits (F := F) .f32 (b i + w)) (v i)) (b i + w) (b i)
    = Scalar.select (FloatOps.cmpf .ole (FloatOps.ofBits (F := F) .f32 (b' j + w)) (v' j)) (b' j + w) (b' j)
  rw [hv, hb]

theorem bitsT_at {s t : Shape} {a : FVec F s .f32} {a' : FVec F t .f32} {i : s.Idx} {j : t.Idx} (h : a i = a' j) : bitsT a i = bitsT a' j := by
  have hv : mulf a (broadcast s (Scalar.ofBits .f32 0x3B124925#32)) i = mulf a' (broadcast t (Scalar.ofBits .f32 0x3B124925#32)) j := by
    show FloatOps.mulf (a i) _ = FloatOps.mulf (a' j) _
    rw [h]; rfl
  unfold bitsT
  exact stepT_at _ hv (stepT_at _ hv (stepT_at _ hv (stepT_at _ hv (stepT_at _ hv (stepT_at _ hv (stepT_at _ hv (stepT_at _ hv rfl)))))))

theorem scaleT_at {s t : Shape} {a : FVec F s .f32} {a' : FVec F t .f32} {i : s.Idx} {j : t.Idx} (h : a i = a' j) : scaleT a i = scaleT a' j := by
  show Scalar.select (FloatOps.cmpf .oeq (a i) _) _ (FloatOps.ofBits (F := F) .f32 (bitsT a i + _))
    = Scalar.select (FloatOps.cmpf .oeq (a' j) _) _ (FloatOps.ofBits (F := F) .f32 (bitsT a' j + _))
  rw [h, bitsT_at h]; rfl

theorem invT_at {s t : Shape} {a : FVec F s .f32} {a' : FVec F t .f32} {i : s.Idx} {j : t.Idx} (h : a i = a' j) : invT a i = invT a' j := by
  show FloatOps.ofBits (F := F) .f32 (_ - bitsT a i) = FloatOps.ofBits (F := F) .f32 (_ - bitsT a' j)
  rw [bitsT_at h]; rfl

section
attribute [local irreducible] yT rmT cmT riT turnT scaleT

theorem cmR_eq (v : View sig .tc .vmem S2x2048 .f32) (R : Reads F) : cmR v R = cmB R := by
  unfold cmR; rw [View.readCov_eq_canon', canon_cmL]
  funext j
  refine congrArg (cmB R) (Shape.idx_ext₂ ?_ ?_)
  · show 0 + 1 * (j 0).val = _; omega
  · show 0 + 1 * (j 1).val = _; omega

theorem read_rcL (v11 v12 : View sig .tc .vmem S256x2048 .f32) (v : View sig .tc .vmem S256x2048 .fp8e4m3) (f : v.ty.Contents (Elt F)) (R : Reads F) :
    v.read (Elt F) (v.writes (Elt F) f (rcL v11 v12 R)) = rcB R := by
  unfold rcL
  funext y
  refine read_stores _ _ _ (rcB R) (fun c x => ?_) y ⟨(y 1).val / 256, by have : (y 1).val < 2048 := (y 1).isLt; omega⟩ ?_
  · skip
    show codeT (mulf (v11.readCov (yL R) (box8 c).toLoadRect) (v12.readCov (riL R) (box8 c).toLoadRect)) x = _
    rw [View.readCov_eq_canon', View.readCov_eq_canon', canon_yL, canon_riL]; rfl
  · skip
    have h0 : (y 0).val < 256 := (y 0).isLt
    show y ∈ (box8 _).set
    rw [Rect.mem_set_unit]; intro a; fin_cases a
    · simp; omega
    · simp; omega

theorem read_rsL (v13 : View sig .tc .vmem S256x128 .f32) (fs : v13.ty.Contents (Elt F)) (v : View sig .tc .vmem S16x256 .f32) (f : v.ty.Contents (Elt F))
    (R : Reads F) : v.read (Elt F) (v.writes (Elt F) f (rsL v13 fs R)) = rsB R := by
  unfold rsL
  funext y
  refine read_stores _ _ _ (rsB R) (fun t x => ?_) y ⟨(y 1).val / 128, by have : (y 1).val < 256 := (y 1).isLt; omega⟩ ?_
  · skip
    have hx0 : (x 0).val < 16 := (x 0).isLt
    have hx1 : (x 1).val < 128 := (x 1).isLt
    show rowScT (fun j => v13.read (Elt F) (v13.writes (Elt F) fs (amL R)) ((boxAl t).emb j)) x = _
    unfold rowScT
    rw [extractStridedSlice_apply _ _ _ _ (ix2 ⟨(x 0).val, by omega⟩ ⟨(x 1).val, by omega⟩ : S128x128.Idx) (by intro a; fin_cases a <;> simp <;> rfl),
      transpose_apply _ _ _ _ (ix2 ⟨(x 1).val, by omega⟩ ⟨(x 0).val, by omega⟩ : S128x128.Idx) (by intro a; fin_cases a <;> rfl)]
    refine scaleT_at ?_
    rw [read_amL _ _ _ _ (by show 0 + 1 * (x 0).val < 16; omega)]
    have e0 : (boxRs t).emb x 0 = ⟨(x 0).val, hx0⟩ := by apply Fin.ext; show 0 + 1 * (x 0).val = (x 0).val; omega
    have e2 : (⟨((boxAl t).emb (ix2 ⟨(x 1).val, by omega⟩ ⟨(x 0).val, by omega⟩) 1).val % 16, by omega⟩ : Fin 16) = ⟨(x 0).val, hx0⟩ := by
      apply Fin.ext; show (0 + 1 * (x 0).val) % 16 = (x 0).val; omega
    show rmT (yT R _) (ix2 ((boxAl t).emb (ix2 ⟨(x 1).val, by omega⟩ ⟨(x 0).val, by omega⟩) 0) 0) = _
    rw [e2, e0]; rfl
  · skip
    have h0 : (y 0).val < 16 := (y 0).isLt
    show y ∈ (boxRs _).set
    rw [Rect.mem_set_unit]; intro a; fin_cases a
    · simp; omega
    · simp; omega

theorem read_ccL (v11 : View sig .tc .vmem S256x2048 .f32) (v14 : View sig .tc .vmem S2x2048 .f32) (v : View sig .tc .vmem S2048x256 .fp8e4m3)
    (f : v.ty.Contents (Elt F)) (R : Reads F) (e : Vec F S256x256 .f32) :
    v.read (Elt F) (v.writes (Elt F) f (ccL v11 v14 R e)) = ccB R e := by
  unfold ccL
  funext y
  refine read_stores _ _ _ (ccB R e) (fun c x => ?_) y ⟨(y 0).val / 256, by have : (y 0).val < 2048 := (y 0).isLt; omega⟩ ?_
  · skip
    have h0 : (x 0).val < 256 := (x 0).isLt
    have e0 : (⟨((box8r c).emb x 0).val / 256, by have : ((box8r c).emb x 0).val < 2048 := ((box8r c).emb x 0).isLt; omega⟩ : Fin 8) = c := by
      apply Fin.ext; show (256 * c.val + 1 * (x 0).val) / 256 = _; omega
    have e1 : (⟨((box8r c).emb x 0).val % 256, by omega⟩ : Fin 256) = x 0 := by
      apply Fin.ext; show (256 * c.val + 1 * (x 0).val) % 256 = _; omega
    have e2 : (box8r c).emb x 1 = x 1 := by apply Fin.ext; show 0 + 1 * (x 1).val = _; omega
    show turnT e (v11.readCov (yL R) (box8 c).toLoadRect) (invT (cmR v14 R)) c x = _
    rw [View.readCov_eq_canon', canon_yL, cmR_eq]
    have hx : x = ix2 (x 0) (x 1) := eq_ix2 x
    show turnT e (yC R c) (invT (cmB R)) c x = turnT e (yC R ⟨((box8r c).emb x 0).val / 256, _⟩) (invT (cmB R)) ⟨((box8r c).emb x 0).val / 256, _⟩
      (ix2 ⟨((box8r c).emb x 0).val % 256, _⟩ ((box8r c).emb x 1))
    rw [e0, e1, e2]; exact congrArg (turnT e (yC R c) (invT (cmB R)) c) hx
  · skip
    have h0 : (y 1).val < 256 := (y 1).isLt
    show y ∈ (box8r _).set
    rw [Rect.mem_set_unit]; intro a; fin_cases a
    · simp; omega
    · simp; omega

theorem read_csL (k : Fin 4) (v14 : View sig .tc .vmem S2x2048 .f32) (v : View sig .tc .vmem S8x2048 .f32) (f : v.ty.Contents (Elt F)) (R : Reads F) :
    v.read (Elt F) (v.writes (Elt F) f (csL k v14 R)) = put k.val (fun t l => scaleT (cmB R) (ix2 t l)) (v.read (Elt F) f) := by
  unfold csL
  funext y
  have hy1 : (y 1).val < 2048 := (y 1).isLt
  by_cases h : (y 0).val / 2 = k.val
  · refine read_stores _ _ _ _ (fun t x => ?_) y 0 ?_
    · have hx : (x 0).val < 2 := (x 0).isLt
      have e0 : ((boxCs k).emb x 0).val = 2 * k.val + (x 0).val := by show 2 * k.val + 1 * (x 0).val = _; omega
      have e1 : (boxCs k).emb x 1 = x 1 := by apply Fin.ext; show 0 + 1 * (x 1).val = _; omega
      show scaleT (cmR v14 R) x = _
      unfold put
      rw [cmR_eq]
      show _ = if ((boxCs k).emb x 0).val / 2 = k.val then _ else _
      rw [if_pos (by rw [e0]; omega)]
      refine congrArg (scaleT (cmB R)) ((eq_ix2 x).trans (Shape.idx_ext₂ ?_ ?_))
      · show (x 0).val = ((boxCs k).emb x 0).val % 2; rw [e0]; omega
      · show (x 1).val = ((boxCs k).emb x 1).val; rw [e1]
    · show y ∈ (boxCs k).set
      rw [Rect.mem_set_unit]; intro a; fin_cases a
      · simp; omega
      · simp; omega
  · rw [View.read_writes_apply_of_forall_not_mem]
    · exact (if_neg h).symm
    · intro p hp
      obtain ⟨i, rfl⟩ := mem_stores.1 hp
      show y ∉ (boxCs k).set
      rw [Rect.mem_set_unit]; intro hh
      have := hh 0; simp at this; omega

theorem read_lnL (k : Fin 4) (w : FVec F S256x1 .f32) (v : View sig .tc .vmem S8x128 .f32) (f : v.ty.Contents (Elt F)) :
    v.read (Elt F) (v.writes (Elt F) f (lnL k w)) = put k.val (fun t l => lineT w t (ix2 0 l)) (v.read (Elt F) f) := by
  unfold lnL
  funext y
  have hy1 : (y 1).val < 128 := (y 1).isLt
  by_cases h : (y 0).val / 2 = k.val
  · refine read_stores _ _ _ _ (fun t x => ?_) y ⟨(y 0).val % 2, by omega⟩ ?_
    · have hx : (x 0).val = 0 := by have : (x 0).val < 1 := (x 0).isLt; omega
      have e0 : ((boxLn k t).emb x 0).val = 2 * k.val + t.val := by show 2 * k.val + t.val + 1 * (x 0).val = _; omega
      have e1 : (boxLn k t).emb x 1 = x 1 := by apply Fin.ext; show 0 + 1 * (x 1).val = _; omega
      have e2 : (⟨((boxLn k t).emb x 0).val % 2, by omega⟩ : Fin 2) = t := by apply Fin.ext; simp only [e0]; omega
      show lineT w t x = if ((boxLn k t).emb x 0).val / 2 = k.val then lineT w ⟨((boxLn k t).emb x 0).val % 2, by omega⟩ (ix2 0 ((boxLn k t).emb x 1)) else _
      rw [if_pos (by rw [e0]; omega), e2, e1]
      refine congrArg (lineT w t) ((eq_ix2 x).trans (Shape.idx_ext₂ ?_ rfl))
      exact hx
    · show y ∈ (boxLn k _).set
      rw [Rect.mem_set_unit]; intro a; fin_cases a
      · simp; omega
      · simp; omega
  · rw [View.read_writes_apply_of_forall_not_mem]
    · exact (if_neg h).symm
    · intro p hp
      obtain ⟨i, rfl⟩ := mem_stores.1 hp
      show y ∉ (boxLn k i).set
      rw [Rect.mem_set_unit]; intro hh
      have := hh 0; simp at this; omega

end

end Cert.KernelIdeal.Own

end
-- ==== Proof.Run.lean ====
module

public import proofs.«01_k».proof.Proof.Points
public import proofs.«01_k».proof.Proof.Block
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! The body run at one grid point: what each output's staging memref holds afterwards, as the list of the
    body's stores into it. -/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the body reads of whole input memrefs held at given contents. -/
def readsOf (arg1 : Memref sig .tc .vmem S256x2048 .bf16) (harg1 : arg1.IsWhole) (arg2 : Memref sig .tc .vmem S1x2048 .f32) (harg2 : arg2.IsWhole)
    (arg3 : Memref sig .tc .vmem S1x2048 .f32) (harg3 : arg3.IsWhole) (x0 : Vec F S256x2048 .bf16) (x1 : Vec F S1x2048 .f32) (x2 : Vec F S1x2048 .f32) : Reads F where
  X8 := fun c => View.readAt (Elt F) arg1.view (box8 c).toLoadRect (harg1.unread x0)
  X16 := fun g => View.readAt (Elt F) arg1.view (box16 g).toLoadRect (harg1.unread x0)
  Ga := fun g => View.readAt (Elt F) arg2.view (box16r g).toLoadRect (harg2.unread x1)
  Be := fun g => View.readAt (Elt F) arg3.view (box16r g).toLoadRect (harg3.unread x2)

/-- A memref held at some contents. -/
theorem some_contents {sp : Space} {s : Shape} {e : EltTy} (c : Dev nD) (a : Memref sig .tc sp s e) (f : a.view.ty.Contents (Elt F)) :
    (iprop(a.view.loc (c : Thread nD τ) ↦[a.view.set]{fullShare} f) : sProp 𝕄)
      ⊢ iprop(∃ d, ∃ f', ⌜a.view.read (Elt F) f' = d⌝ ∗ a.view.loc (c : Thread nD τ) ↦[a.view.set]{fullShare} f') := by
  iintro H
  iexists (a.view.read (Elt F) f); iexists f
  isplitr [H]
  · ipureintro; rfl
  iexact H

-- (the vector operations stay closed while the stores found are compared with the lists: only the names of
--  the lists and of their parts open)
attribute [local irreducible] addf mulf subf rsqrt multiReduction shapeCast broadcastTo extf truncf absf select cmpf addi subi
  bitcastToFloat broadcast minimumf maximumf extractStridedSlice transpose concatenate constant View.readAt View.readCov Memref.IsWhole.unread

-- (the run's proof term is large: checking it walks past the default budget)
set_option maxHeartbeats 8000000 in
/-- The body at a point of residue `k` modulo 4, on whole staging memrefs: the inputs' at their contents; the
    outputs' at anything, handed back holding the listed stores (the last three over the contents they had);
    the scratch at some contents. Exactly the `scf.if` of the residue is taken. -/
theorem run (k : Fin 4) (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x256 .f32) (harg4 : arg4.IsWhole) (arg5 : Memref sig .tc .vmem S256x2048 .fp8e4m3) (harg5 : arg5.IsWhole) (arg6 : Memref sig .tc .vmem S16x256 .f32) (harg6 : arg6.IsWhole) (arg7 : Memref sig .tc .vmem S2048x256 .fp8e4m3) (harg7 : arg7.IsWhole) (arg8 : Memref sig .tc .vmem S8x2048 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x128 .f32) (harg13 : arg13.IsWhole) (arg14 : Memref sig .tc .vmem S2x2048 .f32) (harg14 : arg14.IsWhole)
    (hc0 : cond0_0 i ↔ k.val = 0) (hc1 : cond0_1 i ↔ k.val = 1) (hc2 : cond0_2 i ↔ k.val = 2) (hc3 : cond0_3 i ↔ k.val = 3)
    (x0 : Vec F S256x2048 .bf16) (x1 : Vec F S1x2048 .f32) (x2 : Vec F S1x2048 .f32) (x3 : Vec F S256x256 .f32)
    (x7 : Vec F S8x2048 .f32) (x8 : Vec F S8x128 .f32) (x9 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, owns (c : Thread nD τ) arg5 fullShare (arg5.view.read (Elt F) (arg5.view.writes (Elt F) f (rcL arg11.view arg12.view (readsOf arg1 harg1 arg2 harg2 arg3 harg3 x0 x1 x2))))) ∗ (∃ f fs, owns (c : Thread nD τ) arg6 fullShare (arg6.view.read (Elt F) (arg6.view.writes (Elt F) f (rsL arg13.view fs (readsOf arg1 harg1 arg2 harg2 arg3 harg3 x0 x1 x2))))) ∗ (∃ f, owns (c : Thread nD τ) arg7 fullShare (arg7.view.read (Elt F) (arg7.view.writes (Elt F) f (ccL arg11.view arg14.view (readsOf arg1 harg1 arg2 harg2 arg3 harg3 x0 x1 x2) (View.readAt (Elt F) arg4.view boxE.toLoadRect (harg4.unread x3)))))) ∗ (∃ f, ⌜arg8.view.read (Elt F) f = x7⌝ ∗ owns (c : Thread nD τ) arg8 fullShare (arg8.view.read (Elt F) (arg8.view.writes (Elt F) f (csL k arg14.view (readsOf arg1 harg1 arg2 harg2 arg3 harg3 x0 x1 x2))))) ∗ (∃ f, ⌜arg9.view.read (Elt F) f = x8⌝ ∗ owns (c : Thread nD τ) arg9 fullShare (arg9.view.read (Elt F) (arg9.view.writes (Elt F) f (lnL k (rsT (readsOf arg1 harg1 arg2 harg2 arg3 harg3 x0 x1 x2).X8))))) ∗ (∃ f, ⌜arg10.view.read (Elt F) f = x9⌝ ∗ owns (c : Thread nD τ) arg10 fullShare (arg10.view.read (Elt F) (arg10.view.writes (Elt F) f (lnL k (muT (readsOf arg1 harg1 arg2 harg2 arg3 harg3 x0 x1 x2).X8))))) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_layernorm_fp8_cast_transpose i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_layernorm_fp8_cast_transpose_eq_skeleton]; unfold cc0_layernorm_fp8_cast_transpose_skel
    simp only [k0_part47_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    rcases (by omega : k = 0 ∨ k = 1 ∨ k = 2 ∨ k = 3) with rfl | rfl | rfl | rfl <;>
    ((first | replace hc0 := hc0.mpr rfl | replace hc0 := mt hc0.mp (by decide))
     (first | replace hc1 := hc1.mpr rfl | replace hc1 := mt hc1.mp (by decide))
     (first | replace hc2 := hc2.mpr rfl | replace hc2 := mt hc2.mp (by decide))
     (first | replace hc3 := hc3.mpr rfl | replace hc3 := mt hc3.mp (by decide))
     sl_exec (disch := first | sl_exact hc0 | sl_exact hc1 | sl_exact hc2 | sl_exact hc3)
     sl_step
     iapply Hk
     isplitl [H0]
     · iexists _; isplitr; · ipureintro; exact harg1.read_unread _
       iexact H0
     isplitl [H1]
     · iexists _; isplitr; · ipureintro; exact harg2.read_unread _
       iexact H1
     isplitl [H2]
     · iexists _; isplitr; · ipureintro; exact harg3.read_unread _
       iexact H2
     isplitl [H3]
     · iexists _; isplitr; · ipureintro; exact harg4.read_unread _
       iexact H3
     isplitl [H4]
     · iexists f4; iexists _; isplitr [H4]; · ipureintro; rfl
       iexact H4
     isplitl [H5]
     · iexists f5; iexists fs2; iexists _; isplitr [H5]; · ipureintro; rfl
       iexact H5
     isplitl [H6]
     · iexists f6; iexists _; isplitr [H6]; · ipureintro; rfl
       iexact H6
     isplitl [H7]
     · iexists f7; isplitr [H7]; · ipureintro; exact hf7
       iexists _; isplitr [H7]; · ipureintro; rfl
       iexact H7
     isplitl [H8]
     · iexists f8; isplitr [H8]; · ipureintro; exact hf8
       iexists _; isplitr [H8]; · ipureintro; rfl
       iexact H8
     isplitl [H9]
     · iexists f9; isplitr [H9]; · ipureintro; exact hf9
       iexists _; isplitr [H9]; · ipureintro; rfl
       iexact H9
     isplitl [HS0]
     · iapply some_contents; iexact HS0
     isplitl [HS1]
     · iapply some_contents; iexact HS1
     isplitl [HS2]
     · iapply some_contents; iexact HS2
     · iapply some_contents; iexact HS3)

end Cert.KernelIdeal.Own

end
-- ==== Proof.Obligation.lean ====
module

public import proofs.«01_k».proof.Proof.Contents
public import proofs.«01_k».proof.Proof.Run
public import Idealize.ShloMosaic.Lib.WholeRead
public import Idealize.ShloMosaic.Lib.Pipeline.DatRel
public import Idealize.ShloMosaic.Lib.Pipeline.ArrRel
public import Idealize.ShloMosaic.Lib.Claim

@[expose] public section

set_option maxRecDepth 16384

noncomputable section

/-! The whole run, from the run of the body at one grid point: each output's staging buffer holds, when it is
    written back, the block's values; the three outputs shared by four grid points fill up two rows at a time. -/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

/-- What the body reads of a block and the two parameter rows. -/
def rd (x0 : Vec F S256x2048 .bf16) (x1 x2 : Vec F S1x2048 .f32) : Reads F where
  X8 := fun c j => x0 ((box8 c).emb j)
  X16 := fun g j => x0 ((box16 g).emb j)
  Ga := fun g j => x1 ((box16r g).emb j)
  Be := fun g j => x2 ((box16r g).emb j)

theorem readsOf_eq (arg1 : Memref sig .tc .vmem S256x2048 .bf16) (harg1 : arg1.IsWhole) (arg2 : Memref sig .tc .vmem S1x2048 .f32) (harg2 : arg2.IsWhole)
    (arg3 : Memref sig .tc .vmem S1x2048 .f32) (harg3 : arg3.IsWhole) (x0 : Vec F S256x2048 .bf16) (x1 : Vec F S1x2048 .f32) (x2 : Vec F S1x2048 .f32) :
    readsOf arg1 harg1 arg2 harg2 arg3 harg3 x0 x1 x2 = rd x0 x1 x2 := by
  unfold readsOf rd
  congr 1
  · funext c j; exact harg1.readAt_unread x0 _ j
  · funext c j; exact harg1.readAt_unread x0 _ j
  · funext c j; exact harg2.readAt_unread x1 _ j
  · funext c j; exact harg3.readAt_unread x2 _ j

theorem readE_eq (arg4 : Memref sig .tc .vmem S256x256 .f32) (harg4 : arg4.IsWhole) (x3 : Vec F S256x256 .f32) :
    View.readAt (Elt F) arg4.view boxE.toLoadRect (harg4.unread x3) = x3 := by
  funext j
  refine (harg4.readAt_unread x3 _ j).trans (congrArg x3 (Shape.idx_ext₂ ?_ ?_))
  · show 0 + 1 * (j 0).val = _; omega
  · show 0 + 1 * (j 1).val = _; omega

/-- What the body reads at a grid point. -/
def rdAt (c : Dev nD) (t : Fin cfg0.N) : Reads F := rd (iblk m c 0 t) (iblk m c 1 t) (iblk m c 2 t)

/-- The grid point that fills row `r` of the shared block that point `t` fills too. -/
def ptOf (t : Fin cfg0.N) (r : ℕ) : Fin cfg0.N := ⟨(4 * (t.val / 4) + r / 2) % 144, (Nat.mod_lt _ (by decide)).trans_eq N_0.symm⟩

theorem ptOf_self (t : Fin cfg0.N) (r : ℕ) (h : r / 2 = t.val % 4) : ptOf t r = t := by
  have hN : t.val < 144 := lt_of_lt_of_eq t.isLt N_0
  apply Fin.ext; show (4 * (t.val / 4) + r / 2) % 144 = t.val; omega

theorem ptOf_prev (t t' : Fin cfg0.N) (r : ℕ) (ht : t'.val = t.val - 1) (h0 : t.val % 4 ≠ 0) : ptOf t' r = ptOf t r := by
  apply Fin.ext; show (4 * (t'.val / 4) + r / 2) % 144 = (4 * (t.val / 4) + r / 2) % 144
  rw [show t'.val / 4 = t.val / 4 by omega]

/-- The column scales of the shared block. -/
def csAt (c : Dev nD) (t : Fin cfg0.N) : Vec F S8x2048 .f32 := fun y =>
  scaleT (cmB (rdAt m c (ptOf t (y 0).val))) (ix2 ⟨(y 0).val % 2, by omega⟩ (y 1))
/-- The root factors of the shared block, -/
def sgAt (c : Dev nD) (t : Fin cfg0.N) : Vec F S8x128 .f32 := fun y =>
  lineT (rsT (rdAt m c (ptOf t (y 0).val)).X8) ⟨(y 0).val % 2, by omega⟩ (ix2 0 (y 1))
/-- and its means. -/
def muAt (c : Dev nD) (t : Fin cfg0.N) : Vec F S8x128 .f32 := fun y =>
  lineT (muT (rdAt m c (ptOf t (y 0).val)).X8) ⟨(y 0).val % 2, by omega⟩ (ix2 0 (y 1))

/-- The first rows, those filled up to point `t`, of a shared block agree with the given values. -/
def Filled {α : Type} {n : ℕ} (t : ℕ) (G X : (⟨2, ![8, n]⟩ : Shape).Idx → α) : Prop := ∀ y, (y 0).val < 2 * (t % 4 + 1) → X y = G y

theorem filled_put {α : Type} {n : ℕ} (t : ℕ) (G X : (⟨2, ![8, n]⟩ : Shape).Idx → α) (new : Fin 2 → Fin n → α)
    (hnew : ∀ y, (y 0).val / 2 = t % 4 → new ⟨(y 0).val % 2, by omega⟩ (y 1) = G y)
    (hold : t % 4 ≠ 0 → ∀ y, (y 0).val < 2 * (t % 4) → X y = G y) : Filled t G (put (t % 4) new X) := fun y hy => by
  unfold put
  split
  · next h => exact hnew y h
  · next h => exact hold (by omega) y (by omega)

/-- The windows whose contents the data name by a property: the outputs. -/
def forgets0 : Fin 10 → Bool := fun w => w.val == 4 || w.val == 5 || w.val == 6 || w.val == 7 || w.val == 8 || w.val == 9

/-- The proof data: the arrays as the region finds them, the inputs' buffers at their blocks, the outputs' named by `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- What the body leaves in each output's buffer. -/
def Rl (c : Dev nD) (w : Fin cfg0.W) (t : Fin cfg0.N) : ((cfg0.win w).block.Idx → Elt F (cfg0.win w).elt) → Prop := match w with
  | ⟨4, _⟩ => fun X => X = rcB (rdAt m c t)
  | ⟨5, _⟩ => fun X => X = rsB (rdAt m c t)
  | ⟨6, _⟩ => fun X => X = ccB (rdAt m c t) (iblk m c 3 t)
  | ⟨7, _⟩ => fun X => Filled t.val (csAt m c t) X
  | ⟨8, _⟩ => fun X => Filled t.val (sgAt m c t) X
  | ⟨9, _⟩ => fun X => Filled t.val (muAt m c t) X
  | _ => fun _ => True

/-- The relational data. -/
abbrev rdat (c : Dev nD) : RDat τ (Elt F) Unit ℕ (UR sig nD τ) ℕ cfg0 c := (dats m 0 c).toRRel forgets0 (Rl m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- A buffer written back only after the fourth point of a run of four holds, at the later points, what the point before left. -/
theorem found (c : Dev nD) (w : Fin cfg0.W) (hw : forgets0 w = true) (hin : ∀ t, (cfg0.win w).fetch t = false)
    (hfl : ∀ t : Fin cfg0.N, (cfg0.win w).flush t = true ↔ t.val % 4 = 3) (t : Fin cfg0.N) (h0 : t.val % 4 ≠ 0)
    (X : (cfg0.win w).block.Idx → Elt F (cfg0.win w).elt) (h : (rdat m c).Finds w t X) :
    Rl m c w ⟨t.val - 1, Nat.lt_of_le_of_lt (Nat.sub_le _ _) t.isLt⟩ X := by
  rcases ((rdat m c).finds_of_pos (hin t) (by omega) X).1 h with h | h
  · exact absurd ((hfl _).1 h) (by show (t.val - 1) % 4 ≠ 3; omega)
  · exact (dats m 0 c).toRRel_leaves hw h

theorem found7 (c : Dev nD) (t : Fin cfg0.N) (X : Vec F S8x2048 .f32) (h : (rdat m c).Finds (7 : Fin 10) t X) (h0 : t.val % 4 ≠ 0)
    (y : S8x2048.Idx) (hy : (y 0).val < 2 * (t.val % 4)) : X y = csAt m c t y := by
  have := found m c (7 : Fin 10) rfl (fun _ => rfl) flush0_7 t h0 X h y (by show _ < 2 * ((t.val - 1) % 4 + 1); omega)
  rw [this]; unfold csAt; rw [ptOf_prev t _ _ rfl h0]
theorem found8 (c : Dev nD) (t : Fin cfg0.N) (X : Vec F S8x128 .f32) (h : (rdat m c).Finds (8 : Fin 10) t X) (h0 : t.val % 4 ≠ 0)
    (y : S8x128.Idx) (hy : (y 0).val < 2 * (t.val % 4)) : X y = sgAt m c t y := by
  have := found m c (8 : Fin 10) rfl (fun _ => rfl) flush0_8 t h0 X h y (by show _ < 2 * ((t.val - 1) % 4 + 1); omega)
  rw [this]; unfold sgAt; rw [ptOf_prev t _ _ rfl h0]
theorem found9 (c : Dev nD) (t : Fin cfg0.N) (X : Vec F S8x128 .f32) (h : (rdat m c).Finds (9 : Fin 10) t X) (h0 : t.val % 4 ≠ 0)
    (y : S8x128.Idx) (hy : (y 0).val < 2 * (t.val % 4)) : X y = muAt m c t y := by
  have := found m c (9 : Fin 10) rfl (fun _ => rfl) flush0_9 t h0 X h y (by show _ < 2 * ((t.val - 1) % 4 + 1); omega)
  rw [this]; unfold muAt; rw [ptOf_prev t _ _ rfl h0]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, ⌜(rdat m c).Finds (4 : Fin 10) t d⌝ ∗ owns (c : Thread nD τ) (ms0_4 t) fullShare d)
    ∗ (∃ d, ⌜(rdat m c).Finds (5 : Fin 10) t d⌝ ∗ owns (c : Thread nD τ) (ms0_5 t) fullShare d)
    ∗ (∃ d, ⌜(rdat m c).Finds (6 : Fin 10) t d⌝ ∗ owns (c : Thread nD τ) (ms0_6 t) fullShare d)
    ∗ (∃ d, ⌜(rdat m c).Finds (7 : Fin 10) t d⌝ ∗ owns (c : Thread nD τ) (ms0_7 t) fullShare d)
    ∗ (∃ d, ⌜(rdat m c).Finds (8 : Fin 10) t d⌝ ∗ owns (c : Thread nD τ) (ms0_8 t) fullShare d)
    ∗ (∃ d, ⌜(rdat m c).Finds (9 : Fin 10) t d⌝ ∗ owns (c : Thread nD τ) (ms0_9 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, ⌜Rl m c (4 : Fin 10) t d⌝ ∗ owns (c : Thread nD τ) (ms0_4 t) fullShare d)
    ∗ (∃ d, ⌜Rl m c (5 : Fin 10) t d⌝ ∗ owns (c : Thread nD τ) (ms0_5 t) fullShare d)
    ∗ (∃ d, ⌜Rl m c (6 : Fin 10) t d⌝ ∗ owns (c : Thread nD τ) (ms0_6 t) fullShare d)
    ∗ (∃ d, ⌜Rl m c (7 : Fin 10) t d⌝ ∗ owns (c : Thread nD τ) (ms0_7 t) fullShare d)
    ∗ (∃ d, ⌜Rl m c (8 : Fin 10) t d⌝ ∗ owns (c : Thread nD τ) (ms0_8 t) fullShare d)
    ∗ (∃ d, ⌜Rl m c (9 : Fin 10) t d⌝ ∗ owns (c : Thread nD τ) (ms0_9 t) fullShare d))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, -, H4⟩, ⟨%d5, -, H5⟩, ⟨%d6, -, H6⟩, ⟨%d7, %hd7, H7⟩, ⟨%d8, %hd8, H8⟩, ⟨%d9, %hd9, H9⟩⟩
  iapply (run ⟨t.val % 4, by omega⟩ c (grid0.coords t) _ _ _ _ _ _ _ _ _ _ _ _ _ _ _ _ _ _ _ _ _ _ _ _ _ _ _ _ (hcond0_0 t) (hcond0_1 t) (hcond0_2 t) (hcond0_3 t) (iblk m c 0 t) (iblk m c 1 t) (iblk m c 2 t) (iblk m c 3 t) d7 d8 d9 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  simp only [readsOf_eq, readE_eq, read_rcL, read_rsL, read_ccL, read_csL, read_lnL]
  iintro ⟨H0, H1, H2, H3, ⟨%f4, H4⟩, ⟨%f5, %fs5, H5⟩, ⟨%f6, H6⟩, ⟨%f7, %hf7, H7⟩, ⟨%f8, %hf8, H8⟩, ⟨%f9, %hf9, H9⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]
  · iexists _; isplitr [H4]; rotate_left; · iexact H4
    ipureintro; rfl
  isplitl [H5]
  · iexists _; isplitr [H5]; rotate_left; · iexact H5
    ipureintro; rfl
  isplitl [H6]
  · iexists _; isplitr [H6]; rotate_left; · iexact H6
    ipureintro; rfl
  isplitl [H7]
  · iexists _; isplitr [H7]; rotate_left; · iexact H7
    ipureintro
    refine filled_put t.val (csAt m c t) _ _ (fun y h => ?_) (fun h0 y hy => ?_)
    · unfold csAt; rw [ptOf_self t _ h]; rfl
    · rw [hf7]; exact found7 m c t d7 hd7 h0 y hy
  isplitl [H8]
  · iexists _; isplitr [H8]; rotate_left; · iexact H8
    ipureintro
    refine filled_put t.val (sgAt m c t) _ _ (fun y h => ?_) (fun h0 y hy => ?_)
    · unfold sgAt; rw [ptOf_self t _ h]; rfl
    · rw [hf8]; exact found8 m c t d8 hd8 h0 y hy
  · iexists _; isplitr [H9]; rotate_left; · iexact H9
    ipureintro
    refine filled_put t.val (muAt m c t) _ _ (fun y h => ?_) (fun h0 y hy => ?_)
    · unfold muAt; rw [ptOf_self t _ h]; rfl
    · rw [hf9]; exact found9 m c t d9 hd9 h0 y hy

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-! ## The run and the frame -/

set_option backward.isDefEq.respectTransparency.types false in
/-- The launch: the inputs unchanged, each output's array written back from what the body may leave. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (fun c => (body_obligation m c).toRRel) (fun c => (dats m 0 c).share_full fun _ => rfl)
    (fun _ _ => rfl) (V m) (hmain m Variants.none) (A_eq m) (fun _ _ => rfl)

theorem run_main : θ_run defs (onTc (τ := τ) (main (F := F))) (s₀ m ρ) (Pipeline.RDat.FramePost (cfgs 0) (rdat m) (V m)) :=
  (θ_run defs _ _).mono (fun _ h => h.1) (run_main_quiescent m ρ)

/-- An argument array is nobody's output. -/
theorem unchanged_of (r : PUnit × MemSt nD τ sig (Elt F)) (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c)⟩

/-- The frame of the kernel, for any float operations. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => unchanged_of m r h.1 c, h.2⟩) (run_main_quiescent m ρ)

end Cert.KernelIdeal.Own

end
-- ==== Proof.Spec.lean ====
module

public import Idealize.ShloMosaic.PureOps.Ideal
public import Mathlib.Data.EReal.Inv
public import Mathlib.Analysis.SpecialFunctions.Pow.Real

@[expose] public section

noncomputable section

/-! The mathematics both programs compute, over the extended reals: the row statistics, the normalised values,
    the largest magnitude of a group, the power of two above it and the codes; and the two arguments that are
    more than reading: the search for an exponent bit by bit finds the least power of two above a value, and
    multiplying by the power of the opposite exponent is dividing by the scale. -/

namespace Cert.Spec

open Idealize.ShloMosaic

/-- The constant `1 / 448` as the programs write it. -/
def c448 : EReal := Ideal.ieee 8 23 0x3B124925#32
/-- The constant added to the variance. -/
def eps : EReal := Ideal.ieee 8 23 0x3727C5AC#32
/-- The ends of the format's range. -/
def hi : EReal := Ideal.ieee 8 23 0x43E00000#32
def lo : EReal := Ideal.ieee 8 23 0xC3E00000#32

/-- The mean of a row. -/
def mean (f : Fin 2048 → EReal) : EReal := (∑ j, f j) * (((2048 : ℝ)⁻¹ : ℝ) : EReal)
/-- The reciprocal root of a row's variance. -/
def rsig (f : Fin 2048 → EReal) : EReal := Ideal.rsqrt (mean (fun j => (f j - mean f) * (f j - mean f)) + eps)
/-- A normalised value. -/
def yv (f ga be : Fin 2048 → EReal) (j : Fin 2048) : EReal := (f j - mean f) * rsig f * ga j + be j
/-- The largest magnitude of a group. -/
def amax (v : Fin 128 → EReal) : EReal := Finset.univ.fold max ⊥ fun k => max (v k) (-(v k))
/-- The powers of two from `2 ^ -126` to `2 ^ 126`. -/
def pw (k : Fin 253) : EReal := (((2 : ℝ) ^ ((k.val : ℤ) - 126) : ℝ) : EReal)
/-- The scale of a group: the least of the powers above `a / 448`, the largest if none is; 1 for a zero group. -/
def scaleOf (a : EReal) : EReal :=
  if a = 0 then 1 else Finset.univ.fold min ⊤ fun k : Fin 253 => if a * c448 < pw k then pw k else (((2 : ℝ) ^ (126 : ℤ) : ℝ) : EReal)
/-- The code of a value in a group of largest magnitude `a`. -/
def codeOf (y a : EReal) : EReal := min (max (y * Ideal.div 1 (scaleOf a)) lo) hi

/-! ## Bit patterns -/

/-- The value of the pattern of exponent field `E` and no other bit. -/
def val (E : ℕ) : EReal := if E = 0 then 0 else (((2 : ℝ) ^ ((E : ℤ) - 127) : ℝ) : EReal)

/-- The pattern. -/
abbrev pat (E : ℕ) : BitVec 32 := BitVec.ofNat 32 (E * 8388608)

theorem pat_fields : ∀ E : Fin 254, ((pat E.val).extractLsb' (8 + 23) 1 == 1#1) = false
    ∧ ((pat E.val).extractLsb' 23 8).toNat = E.val ∧ ((pat E.val).extractLsb' 0 23).toNat = 0 := by decide +kernel

theorem ieee_pat (E : ℕ) (hE : E < 254) : Ideal.ieee 8 23 (pat E) = val E := by
  obtain ⟨h1, h2, h3⟩ := pat_fields ⟨E, hE⟩
  simp only at h1 h2 h3
  unfold Ideal.ieee val
  simp only [h1, h2, h3]
  rw [if_neg (by omega)]
  split
  · norm_num
  · congr 1
    norm_num
    rw [show (8388608 : ℝ) = (2 : ℝ) ^ (23 : ℤ) by norm_num, ← zpow_add₀ (by norm_num : (2 : ℝ) ≠ 0)]
    congr 1; omega

theorem val_mono {a b : ℕ} (h : a ≤ b) : val a ≤ val b := by
  unfold val
  split
  · split
    · exact le_rfl
    · exact EReal.coe_nonneg.2 (by positivity)
  · rw [if_neg (by omega)]
    exact EReal.coe_le_coe_iff.2 (zpow_le_zpow_right₀ (by norm_num) (by omega))

theorem pw_eq (k : Fin 253) : pw k = val (k.val + 1) := by
  unfold pw val
  rw [if_neg (by omega)]
  congr 2; push_cast; ring

theorem top_eq : (((2 : ℝ) ^ (126 : ℤ) : ℝ) : EReal) = val 253 := by
  unfold val; rw [if_neg (by omega)]; norm_num

theorem val_lt_of {a b : ℕ} (h : a < b) : val a < val b := by
  unfold val
  rw [if_neg (show b ≠ 0 by omega)]
  split
  · exact EReal.coe_pos.2 (by positivity)
  · exact EReal.coe_lt_coe_iff.2 (zpow_lt_zpow_right₀ (by norm_num) (by omega))

/-! ## The search -/

/-- One step: add `n` if the power stays at most `v`. -/
def stepN (v : EReal) (n E : ℕ) : ℕ := if val (E + n) ≤ v then E + n else E

/-- The exponent the search finds. -/
def expo (v : EReal) : ℕ :=
  stepN v 1 (stepN v 2 (stepN v 4 (stepN v 8 (stepN v 16 (stepN v 32 (stepN v 63 (stepN v 126 0)))))))

/-- Found so far: a power at most `v`, and no better one further than `r` away. -/
def Found (v : EReal) (b r E : ℕ) : Prop := val E ≤ v ∧ E ≤ b ∧ ∀ T ≤ 252, val T ≤ v → T ≤ E + r

theorem found_step {v : EReal} {b r E : ℕ} (n : ℕ) (hn : n ≤ r + 1) (h : Found v b (n + r) E) : Found v (b + n) r (stepN v n E) := by
  obtain ⟨h1, h2, h3⟩ := h
  unfold stepN
  split
  · next h => exact ⟨h, by omega, fun T hT hv => by have := h3 T hT hv; omega⟩
  · next h =>
    refine ⟨h1, by omega, fun T hT hv => ?_⟩
    by_contra hc
    exact h ((val_mono (by omega)).trans hv)

theorem found_expo {v : EReal} (hv : 0 ≤ v) : Found v 252 0 (expo v) := by
  have h0 : Found v 0 252 0 := ⟨by unfold val; rw [if_pos rfl]; exact hv, le_rfl, fun T hT _ => by omega⟩
  have h1 := found_step (r := 126) 126 (by omega) h0
  have h2 := found_step (r := 63) 63 (by omega) h1
  have h3 := found_step (r := 31) 32 (by omega) h2
  have h4 := found_step (r := 15) 16 (by omega) h3
  have h5 := found_step (r := 7) 8 (by omega) h4
  have h6 := found_step (r := 3) 4 (by omega) h5
  have h7 := found_step (r := 1) 2 (by omega) h6
  exact found_step (r := 0) 1 (by omega) h7

theorem stepN_lt {v : EReal} {n E b : ℕ} (h : E ≤ b) : stepN v n E ≤ b + n := by unfold stepN; split <;> omega

theorem expo_le (v : EReal) : expo v ≤ 252 :=
  stepN_lt (b := 251) (stepN_lt (b := 249) (stepN_lt (b := 245) (stepN_lt (b := 237) (stepN_lt (b := 221) (stepN_lt (b := 189) (stepN_lt (b := 126)
    (stepN_lt (b := 0) le_rfl)))))))

theorem c448_pos : 0 ≤ c448 := by
  unfold c448 Ideal.ieee
  simp only [show ((0x3B124925#32).extractLsb' (8 + 23) 1 == 1#1) = false by decide, show ((0x3B124925#32).extractLsb' 23 8).toNat = 118 by decide]
  norm_num

/-- The least power above is the power next to the one found. -/
theorem scaleOf_eq {a : EReal} (ha : 0 ≤ a) (h : a ≠ 0) : scaleOf a = val (expo (a * c448) + 1) := by
  have hv : 0 ≤ a * c448 := mul_nonneg ha c448_pos
  obtain ⟨h1, h2, h3⟩ := found_expo hv
  unfold scaleOf
  rw [if_neg h]
  simp only [top_eq, pw_eq]
  generalize expo (a * c448) = e at *
  generalize a * c448 = v at *
  apply le_antisymm
  · rw [Finset.fold_min_le]
    refine Or.inr ⟨⟨e, by omega⟩, Finset.mem_univ _, ?_⟩
    show (if v < val (e + 1) then val (e + 1) else val 253) ≤ val (e + 1)
    split
    · exact le_rfl
    · next hc =>
      by_cases he : e = 252
      · rw [he]
      · have := h3 (e + 1) (by omega) (not_lt.1 hc); omega
  · rw [Finset.le_fold_min]
    refine ⟨le_top, fun k _ => ?_⟩
    split
    · next hk =>
      apply val_mono
      by_contra hc
      exact absurd hk (not_lt.2 ((val_mono (by omega)).trans h1))
    · exact val_mono (by omega)

theorem val_ne_zero {E : ℕ} (h : E ≠ 0) : val E ≠ 0 := by
  have := val_lt_of (show 0 < E by omega)
  rw [show val 0 = 0 from if_pos rfl] at this
  exact this.ne'

/-- Dividing by the scale is multiplying by the opposite power. -/
theorem div_scale {e : ℕ} (h : e ≤ 252) : Ideal.div 1 (val (e + 1)) = val (253 - e) := by
  unfold Ideal.div
  rw [if_neg (val_ne_zero (by omega)), one_mul]
  unfold val
  rw [if_neg (by omega), if_neg (by omega), ← EReal.coe_inv, ← zpow_neg]
  congr 2; omega

theorem amax_nonneg (v : Fin 128 → EReal) : 0 ≤ amax v := by
  unfold amax
  rw [Finset.le_fold_max]
  refine Or.inr ⟨0, Finset.mem_univ _, ?_⟩
  rcases le_total 0 (v 0) with h | h
  · exact le_max_of_le_left h
  · exact le_max_of_le_right (EReal.neg_nonneg.2 h)

theorem eq_zero_of_amax (v : Fin 128 → EReal) (h : amax v = 0) (k : Fin 128) : v k = 0 := by
  have : amax v ≤ 0 := h.le
  unfold amax at this
  rw [Finset.fold_max_le] at this
  have := this.2 k (Finset.mem_univ _)
  exact le_antisymm (le_trans (le_max_left _ _) this) (EReal.neg_le_neg_iff.1 (by rw [neg_zero]; exact le_trans (le_max_right _ _) this))

/-- The code by the opposite power, in the order of operations the kernel uses. -/
theorem code_eq (v : Fin 128 → EReal) (k : Fin 128) : min hi (max lo (v k * val (253 - expo (amax v * c448)))) = codeOf (v k) (amax v) := by
  unfold codeOf
  rw [min_comm hi, max_comm lo]
  by_cases h : amax v = 0
  · rw [eq_zero_of_amax v h k, zero_mul, zero_mul]
  · rw [scaleOf_eq (amax_nonneg v) h, div_scale (expo_le _)]

end Cert.Spec

end
-- ==== Proof.Quant.lean ====
module

public import proofs.«01_k».proof.Proof.Spec
public import proofs.«01_k».proof.Proof.Gen.ReferenceIdeal.Launch
public import Idealize.ShloMosaic.Lib.PointwiseCore
public import Idealize.ShloMosaic.PureOps.Ideal.Laws
public import Idealize.ShloMosaic.PureOps.Reduce

@[expose] public section

set_option maxRecDepth 16384

noncomputable section

/-! The reference's quantiser of an array of groups, for any number of rows and groups: the operations as the
    reference has them, and what they are at a place. -/

namespace Cert.ReferenceIdeal.Own

open Idealize.ShloMosaic Idealize.ShloMosaic.TcCoe
open Cert.ReferenceIdeal Cert.ReferenceIdeal.Gen Cert.Spec

variable {n g : ℕ}

/-- A matrix of `n` by `g`, and one of `n` by `g` groups of `k`. -/
abbrev M2 (n g : ℕ) : Shape := ⟨2, ![n, g]⟩
abbrev M3 (n g k : ℕ) : Shape := ⟨3, ![n, g, k]⟩

theorem bid_at {α : Type} {s t : Shape} {dims : Fin s.rank → Fin t.rank} (h : s.BroadcastsInDim t dims) (x : s.Idx → α) (j : t.Idx) (k : s.Idx)
    (hk : ∀ a, (k a).val = if s.size a = 1 then 0 else (j (dims a)).val) : broadcastInDim t dims h x j = x k := by
  unfold broadcastInDim
  congr 1
  funext a
  apply Fin.ext
  rw [hk a]
  split <;> rfl

theorem bid_const {α : Type} {t : Shape} {dims : Fin S_.rank → Fin t.rank} (h : S_.BroadcastsInDim t dims) (φ : FTy) (b : BitVec φ.bits) (j : t.Idx) :
    broadcastInDim t dims h (constant (F := Ideal) S_ φ b) j = Ideal.ofBits φ b := rfl

theorem ieee_ninf : Ideal.ofBits .f32 0xFF800000#32 = ⊥ := by
  change Ideal.ieee 8 23 (0xFF800000#32 : BitVec 32) = ⊥
  unfold Ideal.ieee
  simp only [show ((0xFF800000#32).extractLsb' (8 + 23) 1 == 1#1) = true by decide, show ((0xFF800000#32).extractLsb' 23 8).toNat = 255 by decide,
    show ((0xFF800000#32).extractLsb' 0 23).toNat = 0 by decide]
  simp
theorem ieee_inf : Ideal.ofBits .f32 0x7F800000#32 = ⊤ := by
  change Ideal.ieee 8 23 (0x7F800000#32 : BitVec 32) = ⊤
  unfold Ideal.ieee
  simp only [show ((0x7F800000#32).extractLsb' (8 + 23) 1 == 1#1) = false by decide, show ((0x7F800000#32).extractLsb' 23 8).toNat = 255 by decide,
    show ((0x7F800000#32).extractLsb' 0 23).toNat = 0 by decide]
  simp
theorem ieee_zero : Ideal.ofBits .f32 0x00000000#32 = 0 := (ieee_pat 0 (by omega)).trans (if_pos rfl)
theorem ieee_one : Ideal.ofBits .f32 0x3F800000#32 = 1 := (ieee_pat 127 (by omega)).trans (by unfold val; norm_num)
theorem ieee_two : Ideal.ofBits .f32 0x40000000#32 = ((2 : ℝ) : EReal) := (ieee_pat 128 (by omega)).trans (by unfold val; norm_num)
theorem ieee_top : Ideal.ofBits .f32 0x7E800000#32 = (((2 : ℝ) ^ (126 : ℤ) : ℝ) : EReal) := (ieee_pat 253 (by omega)).trans top_eq.symm
theorem ieee_m126 : Ideal.ofBits .f32 0xC2FC0000#32 = ((-126 : ℝ) : EReal) := by
  change Ideal.ieee 8 23 (0xC2FC0000#32 : BitVec 32) = ((-126 : ℝ) : EReal)
  unfold Ideal.ieee
  simp only [show ((0xC2FC0000#32).extractLsb' (8 + 23) 1 == 1#1) = true by decide, show ((0xC2FC0000#32).extractLsb' 23 8).toNat = 133 by decide,
    show ((0xC2FC0000#32).extractLsb' 0 23).toNat = 8126464 by decide]
  norm_num

/-! ## The largest magnitudes -/

def ampR (v : FVec Ideal (M3 n g 128) .f32) (h : (M3 n g 128).ReducesTo [2] (M2 n g)) : FVec Ideal (M2 n g) .f32 :=
  Host.reduce FloatOps.maximumf (Host.absf v) (constant S_ .f32 0xFF800000#32) h h_S_

theorem ampR_at (v : FVec Ideal (M3 n g 128) .f32) (h : (M3 n g 128).ReducesTo [2] (M2 n g)) (i : Fin n) (j : Fin g) :
    ampR v h (ix2 i j) = amax fun k => v (ix3 i j k) := by
  have h' : (M3 n g 128).Reduces [2] (M2 n g) := ⟨h.1, by show 0 < 2; omega, h.2⟩
  unfold ampR
  refine (Host.reduce_eq_fold_single (FloatOps.maximumf (F := Ideal) (φ := .f32)) _ _ h h' h_S_ _).trans ?_
  rw [show constant (F := Ideal) S_ .f32 0xFF800000#32 (Shape.Idx.first h_S_) = ⊥ from ieee_ninf]
  unfold amax
  refine Finset.fold_congr fun (k : Fin 128) _ => ?_
  have e : h'.lift (ix2 i j) k = ix3 i j k := by
    funext a; apply Fin.ext; match a with | ⟨0, _⟩ => rfl | ⟨1, _⟩ => rfl | ⟨2, _⟩ => rfl
  show max (v (h'.lift (ix2 i j) k)) (-(v (h'.lift (ix2 i j) k))) = max (v (ix3 i j k)) (-(v (ix3 i j k)))
  rw [e]

/-! ## The powers of two and the scales -/

def powR : FVec Ideal S253 .f32 :=
  Host.powf (broadcastInDim S253 ![] bcast_S_S253 (constant S_ .f32 0x40000000#32))
    (addf (broadcastInDim S253 ![] bcast_S_S253 (constant S_ .f32 0xC2FC0000#32)) (sitofp .f32 (iotaInDim S253 32 0)))

theorem iota_toInt : ∀ k : Fin 253, (BitVec.ofNat 32 k.val).toInt = k.val := by decide +kernel

theorem powR_at (k : Fin 253) : powR (ix1 k) = pw k := by
  show Ideal.pow (Ideal.ofBits .f32 0x40000000#32) (Ideal.ofBits .f32 0xC2FC0000#32 + (((BitVec.ofNat 32 k.val).toInt : ℝ) : EReal)) = _
  rw [ieee_two, ieee_m126, iota_toInt, ← EReal.coe_add]
  show ((Real.rpow 2 (-126 + ((k.val : ℤ) : ℝ)) : ℝ) : EReal) = _
  unfold pw
  congr 1
  rw [← Real.rpow_intCast]
  refine congrArg (fun x : ℝ => (2 : ℝ) ^ x) ?_
  push_cast; ring

/-- The facts of shape the scales of an `n` by `g` array take. -/
structure ScaleFacts (n g : ℕ) : Prop where
  h0 : S_.BroadcastsInDim (M2 n g) (![] : Fin 0 → Fin (M2 n g).rank)
  hp : S253.BroadcastsInDim (M3 n g 253) (![2] : Fin 1 → Fin (M3 n g 253).rank)
  h1 : (M2 n g).BroadcastsInDim (M3 n g 1) (![0, 1] : Fin 2 → Fin (M3 n g 1).rank)
  h2 : (M3 n g 1).BroadcastsInDim (M3 n g 253) (![0, 1, 2] : Fin 3 → Fin (M3 n g 253).rank)
  h3 : S_.BroadcastsInDim (M3 n g 253) (![] : Fin 0 → Fin (M3 n g 253).rank)
  hr : (M3 n g 253).ReducesTo [2] (M2 n g)

def sclR (a : FVec Ideal (M2 n g) .f32) (H : ScaleFacts n g) : FVec Ideal (M2 n g) .f32 :=
  select (cmpf .oeq a (broadcastInDim (M2 n g) ![] H.h0 (constant S_ .f32 0x00000000#32))) (broadcastInDim (M2 n g) ![] H.h0 (constant S_ .f32 0x3F800000#32))
    (Host.reduce FloatOps.minimumf
      (select (cmpf .ogt (broadcastInDim (M3 n g 253) ![2] H.hp powR)
          (broadcastInDim (M3 n g 253) ![0, 1, 2] H.h2 (broadcastInDim (M3 n g 1) ![0, 1] H.h1
            (mulf a (broadcastInDim (M2 n g) ![] H.h0 (constant S_ .f32 0x3B124925#32))))))
        (broadcastInDim (M3 n g 253) ![2] H.hp powR) (broadcastInDim (M3 n g 253) ![] H.h3 (constant S_ .f32 0x7E800000#32)))
      (constant S_ .f32 0x7F800000#32) H.hr h_S_)

/-- A value spread along a new last axis. -/
theorem spread_at {α : Type} {k : ℕ} (h1 : (M2 n g).BroadcastsInDim (M3 n g 1) (![0, 1] : Fin 2 → Fin (M3 n g 1).rank))
    (h2 : (M3 n g 1).BroadcastsInDim (M3 n g k) (![0, 1, 2] : Fin 3 → Fin (M3 n g k).rank)) (x : (M2 n g).Idx → α) (i : Fin n) (j : Fin g) (l : Fin k) :
    broadcastInDim (M3 n g k) ![0, 1, 2] h2 (broadcastInDim (M3 n g 1) ![0, 1] h1 x) (ix3 i j l) = x (ix2 i j) := by
  rw [bid_at h2 _ (ix3 i j l) (ix3 i j 0), bid_at h1 _ (ix3 i j 0) (ix2 i j)]
  · intro a; match a with
    | ⟨0, _⟩ => show i.val = if n = 1 then 0 else i.val; split <;> omega
    | ⟨1, _⟩ => show j.val = if g = 1 then 0 else j.val; split <;> omega
  · intro a; match a with
    | ⟨0, _⟩ => show i.val = if n = 1 then 0 else i.val; split <;> omega
    | ⟨1, _⟩ => show j.val = if g = 1 then 0 else j.val; split <;> omega
    | ⟨2, _⟩ => rfl

theorem sel_cmp {α : Type} (p : Prop) [Decidable p] (x y : α) : Scalar.select (BitVec.ofBool (decide p)) x y = if p then x else y := by
  unfold Scalar.select
  by_cases h : p <;> simp [h]

theorem sclR_at (a : FVec Ideal (M2 n g) .f32) (H : ScaleFacts n g) (i : Fin n) (j : Fin g) : sclR a H (ix2 i j) = scaleOf (a (ix2 i j)) := by
  have h' : (M3 n g 253).Reduces [2] (M2 n g) := ⟨H.hr.1, by show 0 < 2; omega, H.hr.2⟩
  have e : ∀ k : Fin 253, h'.lift (ix2 i j) k = ix3 i j k := fun k => by
    funext a; apply Fin.ext; match a with | ⟨0, _⟩ => rfl | ⟨1, _⟩ => rfl | ⟨2, _⟩ => rfl
  unfold sclR
  show Scalar.select (BitVec.ofBool (decide (a (ix2 i j) = Ideal.ofBits .f32 0x00000000#32))) (Ideal.ofBits .f32 0x3F800000#32) _ = _
  rw [sel_cmp, ieee_zero, ieee_one]
  unfold scaleOf
  congr 1
  refine (Host.reduce_eq_fold_single (FloatOps.minimumf (F := Ideal) (φ := .f32)) _ _ H.hr h' h_S_ _).trans ?_
  rw [show constant (F := Ideal) S_ .f32 0x7F800000#32 (Shape.Idx.first h_S_) = ⊤ from ieee_inf]
  refine Finset.fold_congr fun (k : Fin 253) _ => ?_
  show Scalar.select (BitVec.ofBool (decide (broadcastInDim (M3 n g 253) ![0, 1, 2] H.h2 (broadcastInDim (M3 n g 1) ![0, 1] H.h1
      (mulf a (broadcastInDim (M2 n g) ![] H.h0 (constant S_ .f32 0x3B124925#32)))) (h'.lift (ix2 i j) k)
        < broadcastInDim (M3 n g 253) ![2] H.hp powR (h'.lift (ix2 i j) k)))) (broadcastInDim (M3 n g 253) ![2] H.hp powR (h'.lift (ix2 i j) k))
      (Ideal.ofBits .f32 0x7E800000#32) = _
  rw [e k, spread_at, sel_cmp, bid_at H.hp powR (ix3 i j k) (ix1 k) (fun a => by match a with | ⟨0, _⟩ => rfl), powR_at, ieee_top]
  rfl

/-! ## The codes before the cast -/

structure CodeFacts (n g : ℕ) : Prop where
  h0 : S_.BroadcastsInDim (M2 n g) (![] : Fin 0 → Fin (M2 n g).rank)
  h1 : (M2 n g).BroadcastsInDim (M3 n g 1) (![0, 1] : Fin 2 → Fin (M3 n g 1).rank)
  h2 : (M3 n g 1).BroadcastsInDim (M3 n g 128) (![0, 1, 2] : Fin 3 → Fin (M3 n g 128).rank)
  h3 : S_.BroadcastsInDim (M3 n g 128) (![] : Fin 0 → Fin (M3 n g 128).rank)

def codR (v : FVec Ideal (M3 n g 128) .f32) (s : FVec Ideal (M2 n g) .f32) (H : CodeFacts n g) : FVec Ideal (M3 n g 128) .f32 :=
  minimumf (maximumf (mulf v (broadcastInDim (M3 n g 128) ![0, 1, 2] H.h2 (broadcastInDim (M3 n g 1) ![0, 1] H.h1
      (Host.divf (broadcastInDim (M2 n g) ![] H.h0 (constant S_ .f32 0x3F800000#32)) s))))
    (broadcastInDim (M3 n g 128) ![] H.h3 (constant S_ .f32 0xC3E00000#32))) (broadcastInDim (M3 n g 128) ![] H.h3 (constant S_ .f32 0x43E00000#32))

theorem codR_at (v : FVec Ideal (M3 n g 128) .f32) (s : FVec Ideal (M2 n g) .f32) (H : CodeFacts n g) (i : Fin n) (j : Fin g) (k : Fin 128) (a : EReal)
    (hs : s (ix2 i j) = scaleOf a) : codR v s H (ix3 i j k) = codeOf (v (ix3 i j k)) a := by
  unfold codR
  show min (max (v (ix3 i j k) * broadcastInDim (M3 n g 128) ![0, 1, 2] H.h2 (broadcastInDim (M3 n g 1) ![0, 1] H.h1
      (Host.divf (broadcastInDim (M2 n g) ![] H.h0 (constant S_ .f32 0x3F800000#32)) s)) (ix3 i j k)) (Ideal.ofBits .f32 0xC3E00000#32)) (Ideal.ofBits .f32 0x43E00000#32) = _
  rw [spread_at]
  show min (max (v (ix3 i j k) * Ideal.div (Ideal.ofBits .f32 0x3F800000#32) (s (ix2 i j))) _) _ = _
  rw [ieee_one, hs]
  rfl

end Cert.ReferenceIdeal.Own

end
-- ==== Proof.Whole.lean ====
module

public import proofs.«01_k».proof.Proof.Spec
public import Idealize.ShloMosaic.Lib.PointwiseCore

@[expose] public section

noncomputable section

/-! The six results as functions of the rows and the two parameter vectors, over the extended reals. -/

namespace Cert.Spec

open Idealize.ShloMosaic

/-- Column `l` of group `g`; row `i` of tile `s`. -/
def col16 (g : Fin 16) (l : Fin 128) : Fin 2048 := ⟨128 * g.val + l.val, by omega⟩
def rowOf (s : Fin 288) (i : Fin 128) : Fin 36864 := ⟨128 * s.val + i.val, by omega⟩
/-- The group of a column and the tile of a row. -/
def grpOf (j : Fin 2048) : Fin 16 := ⟨j.val / 128, by omega⟩
def tileOf (n : Fin 36864) : Fin 288 := ⟨n.val / 128, by omega⟩

/-- The largest magnitude of group `g` of a row, and of column `j` over a tile of rows. -/
def rowMax (f ga be : Fin 2048 → EReal) (g : Fin 16) : EReal := amax fun l => yv f ga be (col16 g l)
def colMax (f : Fin 128 → Fin 2048 → EReal) (ga be : Fin 2048 → EReal) (j : Fin 2048) : EReal := amax fun i => yv (f i) ga be j

section
variable (X : Fin 36864 → Fin 2048 → EReal) (ga be : Fin 2048 → EReal)

/-- The row codes. -/
def rowCodes : (⟨2, ![36864, 2048]⟩ : Shape).Idx → EReal := fun i => codeOf (yv (X (i 0)) ga be (i 1)) (rowMax (X (i 0)) ga be (grpOf (i 1)))
/-- The row scales, group by row. -/
def rowScales : (⟨2, ![16, 36864]⟩ : Shape).Idx → EReal := fun i => scaleOf (rowMax (X (i 1)) ga be (i 0))
/-- The column codes, column by row. -/
def colCodes : (⟨2, ![2048, 36864]⟩ : Shape).Idx → EReal := fun i =>
  codeOf (yv (X (i 1)) ga be (i 0)) (colMax (fun k => X (rowOf (tileOf (i 1)) k)) ga be (i 0))
/-- The column scales. -/
def colScales : (⟨2, ![288, 2048]⟩ : Shape).Idx → EReal := fun i => scaleOf (colMax (fun k => X (rowOf (i 0) k)) ga be (i 1))
/-- The reciprocal roots and the means, 128 rows to a line. -/
def roots : (⟨2, ![288, 128]⟩ : Shape).Idx → EReal := fun i => rsig (X (rowOf (i 0) (i 1)))
def means : (⟨2, ![288, 128]⟩ : Shape).Idx → EReal := fun i => mean (X (rowOf (i 0) (i 1)))

end

end Cert.Spec

end
-- ==== Proof.Values.lean ====
module

public import proofs.«01_k».proof.Proof.Contents
public import proofs.«01_k».proof.Proof.Quant
public import proofs.«01_k».proof.Proof.Whole
public import Idealize.ShloMosaic.Lib.MatmulPlain

@[expose] public section

set_option maxRecDepth 16384

noncomputable section

/-! What the kernel's body leaves for a block of 256 rows, over the extended reals: the row statistics, the
    normalised values, the scales and the codes of `Spec`. -/

namespace Cert.KernelIdeal.Own

open Idealize.ShloMosaic Idealize.ShloMosaic.TcCoe
open Cert.KernelIdeal.Gen Cert.Spec
open Cert.ReferenceIdeal.Own (ieee_ninf ieee_zero ieee_one sel_cmp)

/-- Column `l` of chunk `c`; row `i` of tile `t` of a block. -/
def col8 (c : Fin 8) (l : Fin 256) : Fin 2048 := ⟨256 * c.val + l.val, by omega⟩
def row2 (t : Fin 2) (i : Fin 128) : Fin 256 := ⟨128 * t.val + i.val, by omega⟩

theorem col16_grp (j : Fin 2048) : col16 (grp j) (lane j) = j := by
  apply Fin.ext; show 128 * (j.val / 128) + j.val % 128 = j.val; omega

/-- The block holds the rows `f`, the parameter rows are `ga` and `be`. -/
structure Holds (R : Reads Ideal) (f : Fin 256 → Fin 2048 → EReal) (ga be : Fin 2048 → EReal) : Prop where
  x8 : ∀ c r l, R.X8 c (ix2 r l) = f r (col8 c l)
  x16 : ∀ g r l, R.X16 g (ix2 r l) = f r (col16 g l)
  hga : ∀ g l, R.Ga g (ix2 0 l) = ga (col16 g l)
  hbe : ∀ g l, R.Be g (ix2 0 l) = be (col16 g l)

/-! ## The row statistics -/

theorem sum_cols (f : Fin 2048 → EReal) : ∑ c : Fin 8, ∑ l : Fin 256, f (col8 c l) = ∑ j, f j := by
  rw [← Fintype.sum_prod_type' (f := fun c l => f (col8 c l))]
  refine Fintype.sum_equiv (finProdFinEquiv (m := 8) (n := 256)) _ _ fun p => congrArg f (Fin.ext ?_)
  show 256 * p.1.val + p.2.val = p.2.val + 256 * p.1.val; omega

theorem accum_at (n : ℕ) (v : Fin n → FVec Ideal S256x1 .f32) (i : S256x1.Idx) : accum n v i = ∑ c, v c i := by
  induction n with
  | zero => rw [Fin.sum_univ_zero]; exact ieee_zero
  | succ n ih => rw [Fin.sum_univ_castSucc, ← ih]; rfl

theorem rowSum_at (v : FVec Ideal S256x256 .f32) (r : Fin 256) : rowSum v (ix2 r 0) = ∑ l : Fin 256, v (ix2 r l) := by
  unfold rowSum
  rw [shapeCast_apply _ _ _ (ix1 r) (by rw [Shape.rowMajor_val_two, Shape.rowMajor_val_one]; show r.val = r.val * 1 + 0; omega)]
  refine (Ideal.multiReduction_add_single v _ _ _ _ _).trans (Finset.sum_congr rfl fun l _ => congrArg v ?_)
  funext a; apply Fin.ext; match a with | ⟨0, _⟩ => rfl | ⟨1, _⟩ => rfl

theorem wide_at (v : Vec Ideal S256x256 .bf16) (i : S256x256.Idx) : wide v i = v i := by
  show shapeCast S256x256 v shapeCasts_S256x256_S256x256 i = v i
  rw [shapeCast_self]

theorem mean_const : Ideal.ofBits .f32 0x3A000000#32 = (((2048 : ℝ)⁻¹ : ℝ) : EReal) :=
  (ieee_pat 116 (by omega)).trans (by unfold val; norm_num)

theorem muT_eq (X : Fin 8 → Vec Ideal S256x256 .bf16) (f : Fin 2048 → EReal) (r : Fin 256) (h : ∀ c l, X c (ix2 r l) = f (col8 c l)) :
    muT X (ix2 r 0) = mean f := by
  unfold muT
  show accum 8 (fun c => rowSum (wide (X c))) (ix2 r 0) * Ideal.ofBits .f32 0x3A000000#32 = _
  rw [accum_at, mean_const]
  unfold mean
  rw [← sum_cols f]
  congr 1
  refine Finset.sum_congr rfl fun c _ => (rowSum_at _ r).trans (Finset.sum_congr rfl fun l _ => ?_)
  rw [wide_at, h]

theorem bc_row {α : Type} {n k : ℕ} (x : (⟨2, ![n, 1]⟩ : Shape).Idx → α) (h : (⟨2, ![n, 1]⟩ : Shape).Broadcasts ⟨2, ![n, k]⟩) (r : Fin n) (l : Fin k) :
    broadcastTo ⟨2, ![n, k]⟩ x h (ix2 r l) = x (ix2 r 0) :=
  broadcastTo_apply _ _ _ _ fun a => by
    match a with
    | ⟨0, _⟩ => show r.val = if n = 1 then 0 else r.val; split <;> omega
    | ⟨1, _⟩ => rfl

theorem bc_col {α : Type} {n k : ℕ} (x : (⟨2, ![1, k]⟩ : Shape).Idx → α) (h : (⟨2, ![1, k]⟩ : Shape).Broadcasts ⟨2, ![n, k]⟩) (r : Fin n) (l : Fin k) :
    broadcastTo ⟨2, ![n, k]⟩ x h (ix2 r l) = x (ix2 0 l) :=
  broadcastTo_apply _ _ _ _ fun a => by
    match a with
    | ⟨0, _⟩ => rfl
    | ⟨1, _⟩ => show l.val = if k = 1 then 0 else l.val; split <;> omega

theorem devT_at (X : Fin 8 → Vec Ideal S256x256 .bf16) (c : Fin 8) (r l : Fin 256) :
    devT X c (ix2 r l) = X c (ix2 r l) - muT X (ix2 r 0) := by
  show wide (X c) (ix2 r l) - broadcastTo S256x256 (muT X) broadcasts_S256x1_S256x256 (ix2 r l) = _
  rw [wide_at, bc_row]

theorem rsT_eq (X : Fin 8 → Vec Ideal S256x256 .bf16) (f : Fin 2048 → EReal) (r : Fin 256) (h : ∀ c l, X c (ix2 r l) = f (col8 c l)) :
    rsT X (ix2 r 0) = rsig f := by
  unfold rsT
  show Ideal.rsqrt (accum 8 (fun c => rowSum (mulf (devT X c) (devT X c))) (ix2 r 0) * Ideal.ofBits .f32 0x3A000000#32 + Ideal.ofBits .f32 0x3727C5AC#32) = _
  rw [accum_at, mean_const]
  unfold rsig
  conv_rhs => unfold mean
  rw [← sum_cols]
  congr 3
  refine Finset.sum_congr rfl fun c _ => (rowSum_at _ r).trans (Finset.sum_congr rfl fun l _ => ?_)
  show devT X c (ix2 r l) * devT X c (ix2 r l) = _
  rw [devT_at, muT_eq X f r h, h]
  rfl

/-! ## The normalised values and their largest magnitudes -/

theorem yT_eq {R : Reads Ideal} {f ga be} (H : Holds R f ga be) (g : Fin 16) (r : Fin 256) (l : Fin 128) :
    yT R g (ix2 r l) = yv (f r) ga be (col16 g l) := by
  unfold yT affT
  show (shapeCast S256x128 (R.X16 g) shapeCasts_S256x128_S256x128 (ix2 r l) - broadcastTo S256x128 (muT R.X8) broadcasts_S256x1_S256x128 (ix2 r l))
      * broadcastTo S256x128 (rsT R.X8) broadcasts_S256x1_S256x128 (ix2 r l)
      * broadcastTo S256x128 (shapeCast S1x128 (R.Ga g) shapeCasts_S1x128_S1x128 : FVec Ideal S1x128 .f32) broadcasts_S1x128_S256x128 (ix2 r l)
      + broadcastTo S256x128 (shapeCast S1x128 (R.Be g) shapeCasts_S1x128_S1x128 : FVec Ideal S1x128 .f32) broadcasts_S1x128_S256x128 (ix2 r l) = _
  rw [shapeCast_self, shapeCast_self, shapeCast_self, bc_row, bc_row, bc_col, bc_col, muT_eq R.X8 (f r) r (fun c l => H.x8 c r l),
    rsT_eq R.X8 (f r) r (fun c l => H.x8 c r l), H.x16, H.hga, H.hbe]
  rfl

theorem rmT_eq (y : FVec Ideal S256x128 .f32) (r : Fin 256) : rmT y (ix2 r 0) = amax fun l => y (ix2 r l) := by
  unfold rmT
  rw [shapeCast_apply _ _ _ (ix1 r) (by rw [Shape.rowMajor_val_two, Shape.rowMajor_val_one]; show r.val = r.val * 1 + 0; omega)]
  refine (Ideal.multiReduction_maximumf_single (absf y) _ _ _ _ _).trans ?_
  rw [show (FloatOps.ofBits (F := Ideal) .f32 0xFF800000#32) = ⊥ from ieee_ninf]
  unfold amax
  refine Finset.fold_congr fun (l : Fin 128) _ => ?_
  have e : reduces_S256x128_S256.lift (ix1 r) l = ix2 r l := by
    funext a; apply Fin.ext; match a with | ⟨0, _⟩ => rfl | ⟨1, _⟩ => rfl
  show max (y (reduces_S256x128_S256.lift (ix1 r) l)) (-(y (reduces_S256x128_S256.lift (ix1 r) l))) = _
  rw [e]

theorem cmT_eq (y : FVec Ideal S256x128 .f32) (t : Fin 2) (l : Fin 128) : cmT y t (ix2 0 l) = amax fun i => y (ix2 (row2 t i) l) := by
  unfold cmT
  rw [shapeCast_apply _ _ _ (ix1 l) (by rw [Shape.rowMajor_val_two, Shape.rowMajor_val_one]; show l.val = 0 * 128 + l.val; omega)]
  refine (Ideal.multiReduction_maximumf_single _ _ _ _ _ _).trans ?_
  rw [show (FloatOps.ofBits (F := Ideal) .f32 0xFF800000#32) = ⊥ from ieee_ninf]
  unfold amax
  refine Finset.fold_congr fun (i : Fin 128) _ => ?_
  have e : reduces_S128x128_S128.lift (ix1 l) i = ix2 i l := by
    funext a; apply Fin.ext; match a with | ⟨0, _⟩ => rfl | ⟨1, _⟩ => rfl
  show extractStridedSlice S128x128 ![128 * t.val, 0] (absf y) (slcT t) (reduces_S128x128_S128.lift (ix1 l) i) = _
  rw [e, extractStridedSlice_apply _ _ _ _ (ix2 (row2 t i) l) (fun a => by
    match a with
    | ⟨0, _⟩ => rfl
    | ⟨1, _⟩ => show l.val = 0 + l.val; omega)]
  rfl

/-! ## The scales -/

theorem stepT_pat {s : Shape} (v : FVec Ideal s .f32) (n E : ℕ) (w : BitVec 32) (hw : w = pat n) (b : IVec s 32) (i : s.Idx) (hb : b i = pat E)
    (h : E + n < 254) : stepT v w b i = pat (stepN (v i) n E) := by
  have e : b i + w = pat (E + n) := by rw [hb, hw, pat, pat, pat, Nat.add_mul, BitVec.ofNat_add]
  show Scalar.select (BitVec.ofBool (decide (Ideal.ofBits .f32 (b i + w) ≤ v i))) (b i + w) (b i) = _
  rw [e, sel_cmp, show Ideal.ofBits .f32 (pat (E + n)) = val (E + n) from ieee_pat _ h, hb]
  unfold stepN
  split <;> rfl

theorem bitsT_eq {s : Shape} (a : FVec Ideal s .f32) (i : s.Idx) : bitsT a i = pat (expo (a i * c448)) := by
  have h1 : stepN (a i * c448) 126 0 ≤ 126 := stepN_lt (b := 0) le_rfl
  have h2 := stepN_lt (v := a i * c448) (n := 63) h1
  have h3 := stepN_lt (v := a i * c448) (n := 32) h2
  have h4 := stepN_lt (v := a i * c448) (n := 16) h3
  have h5 := stepN_lt (v := a i * c448) (n := 8) h4
  have h6 := stepN_lt (v := a i * c448) (n := 4) h5
  have h7 := stepN_lt (v := a i * c448) (n := 2) h6
  unfold bitsT expo
  exact stepT_pat _ 1 _ _ (by decide) _ i (stepT_pat _ 2 _ _ (by decide) _ i (stepT_pat _ 4 _ _ (by decide) _ i (stepT_pat _ 8 _ _ (by decide) _ i
    (stepT_pat _ 16 _ _ (by decide) _ i (stepT_pat _ 32 _ _ (by decide) _ i (stepT_pat _ 63 _ _ (by decide) _ i (stepT_pat _ 126 0 _ (by decide) _ i rfl
    (by omega)) (by omega)) (by omega)) (by omega)) (by omega)) (by omega)) (by omega)) (by omega)

theorem pat_sub : ∀ e : Fin 253, 2122317824#32 - pat e.val = pat (253 - e.val) := by decide +kernel
theorem pat_add : ∀ e : Fin 253, pat e.val + 8388608#32 = pat (e.val + 1) := by decide +kernel

theorem invT_eq {s : Shape} (a : FVec Ideal s .f32) (i : s.Idx) : invT a i = val (253 - expo (a i * c448)) := by
  show Ideal.ofBits .f32 (2122317824#32 - bitsT a i) = _
  rw [bitsT_eq, pat_sub ⟨_, Nat.lt_succ_of_le (expo_le _)⟩]
  exact ieee_pat _ (by omega)

theorem scaleT_eq {s : Shape} (a : FVec Ideal s .f32) (i : s.Idx) (h : 0 ≤ a i) : scaleT a i = scaleOf (a i) := by
  show Scalar.select (BitVec.ofBool (decide (a i = Ideal.ofBits .f32 0x00000000#32))) (Ideal.ofBits .f32 0x3F800000#32)
    (Ideal.ofBits .f32 (bitsT a i + 8388608#32)) = _
  rw [sel_cmp, ieee_zero, ieee_one, bitsT_eq, pat_add ⟨_, Nat.lt_succ_of_le (expo_le _)⟩]
  split
  · next h0 => unfold scaleOf; rw [if_pos h0]
  · next h0 =>
    rw [scaleOf_eq h h0]
    exact ieee_pat _ (by have := expo_le (a i * c448); omega)

/-! ## The outputs of a block -/

theorem rmT_yT {R : Reads Ideal} {f ga be} (H : Holds R f ga be) (g : Fin 16) (r : Fin 256) : rmT (yT R g) (ix2 r 0) = rowMax (f r) ga be g := by
  rw [rmT_eq]; unfold rowMax; congr 1; funext l; exact yT_eq H g r l

theorem cmB_eq {R : Reads Ideal} {f ga be} (H : Holds R f ga be) (t : Fin 2) (j : Fin 2048) :
    cmB R (ix2 t j) = colMax (fun i => f (row2 t i)) ga be j := by
  show cmT (yT R (grp j)) t (ix2 0 (lane j)) = _
  rw [cmT_eq]; unfold colMax; congr 1; funext i; rw [yT_eq H, col16_grp]

theorem yB_eq {R : Reads Ideal} {f ga be} (H : Holds R f ga be) (r : Fin 256) (j : Fin 2048) : yB R (ix2 r j) = yv (f r) ga be j := by
  show yT R (grp j) (ix2 r (lane j)) = _
  rw [yT_eq H, col16_grp]

theorem codeT_at {s : Shape} (v : FVec Ideal s .f32) (i : s.Idx) : codeT v i = min hi (max lo (v i)) := rfl

theorem rcB_eq {R : Reads Ideal} {f ga be} (H : Holds R f ga be) (r : Fin 256) (j : Fin 2048) :
    rcB R (ix2 r j) = codeOf (yv (f r) ga be j) (rowMax (f r) ga be (grp j)) := by
  have hri : riB R (ix2 r j) = val (253 - expo (rowMax (f r) ga be (grp j) * c448)) := by
    show riT (yT R (grp j)) (ix2 r (lane j)) = _
    unfold riT
    rw [bc_row, shapeCast_self, invT_eq, rmT_yT H]
  unfold rcB
  rw [codeT_at]
  show min hi (max lo (yB R (ix2 r j) * riB R (ix2 r j))) = _
  rw [hri, yB_eq H]
  have h := code_eq (fun l => yv (f r) ga be (col16 (grp j) l)) (lane j)
  simp only [col16_grp] at h
  exact h

theorem rsB_eq {R : Reads Ideal} {f ga be} (H : Holds R f ga be) (g : Fin 16) (r : Fin 256) : rsB R (ix2 g r) = scaleOf (rowMax (f r) ga be g) := by
  show scaleT (rmT (yT R g)) (ix2 r 0) = _
  have h := rmT_yT H g r
  rw [scaleT_eq _ _ (h ▸ amax_nonneg _), h]

theorem csB_eq {R : Reads Ideal} {f ga be} (H : Holds R f ga be) (t : Fin 2) (j : Fin 2048) :
    scaleT (cmB R) (ix2 t j) = scaleOf (colMax (fun i => f (row2 t i)) ga be j) := by
  have h := cmB_eq H t j
  rw [scaleT_eq _ _ (h ▸ amax_nonneg _), h]

theorem lineT_eq (v : FVec Ideal S256x1 .f32) (t : Fin 2) (l : Fin 128) : lineT v t (ix2 0 l) = v (ix2 (row2 t l) 0) := by
  unfold lineT
  rw [extractStridedSlice_apply _ _ _ _ (ix2 0 l : S128x128.Idx) (fun a => by
      match a with
      | ⟨0, _⟩ => rfl
      | ⟨1, _⟩ => show l.val = 0 + l.val; omega),
    transpose_apply _ _ _ _ (ix2 l 0 : S128x128.Idx) (fun a => by match a with | ⟨0, _⟩ => rfl | ⟨1, _⟩ => rfl),
    bc_row, shapeCast_self]
  exact extractStridedSlice_apply _ _ _ _ _ fun a => by
    match a with
    | ⟨0, _⟩ => rfl
    | ⟨1, _⟩ => rfl

/-! ## The turned codes -/

theorem halfT_eq (y : Vec Ideal S256x256 .f32) (iv : FVec Ideal S2x2048 .f32) (c : Fin 8) (t : Fin 2) (i : Fin 128) (l : Fin 256) :
    halfT y iv c t (ix2 i l) = min hi (max lo (y (ix2 (row2 t i) l) * iv (ix2 t (col8 c l)))) := by
  unfold halfT
  rw [codeT_at]
  show min hi (max lo (extractStridedSlice S128x256 ![128 * t.val, 0] (y : FVec Ideal S256x256 .f32) (slcY t) (ix2 i l)
    * broadcastTo S128x256 (extractStridedSlice S1x256 ![t.val, 256 * c.val] iv (slcI c t)) broadcasts_S1x256_S128x256 (ix2 i l))) = _
  rw [bc_col, extractStridedSlice_apply _ _ _ _ (ix2 (row2 t i) l) (fun a => by
      match a with
      | ⟨0, _⟩ => rfl
      | ⟨1, _⟩ => show l.val = 0 + l.val; omega),
    extractStridedSlice_apply _ _ _ _ (ix2 t (col8 c l)) (fun a => by
      match a with
      | ⟨0, _⟩ => rfl
      | ⟨1, _⟩ => rfl)]

theorem ix2_eq {n k : ℕ} (a : Fin n) (b : Fin k) : ValueIdx.ix2 a b = ix2 a b := rfl

/-- Tile and place of a row of the block. -/
def tile (r : Fin 256) : Fin 2 := ⟨r.val / 128, by omega⟩
def rlane (r : Fin 256) : Fin 128 := ⟨r.val % 128, by omega⟩

theorem row2_tile (r : Fin 256) : row2 (tile r) (rlane r) = r := by
  apply Fin.ext; show 128 * (r.val / 128) + r.val % 128 = r.val; omega

theorem cat_at (x : Fin 2 → (S128x256.Idx → EReal)) (h : Shape.Concatenates [S128x256, S128x256] S256x256 0) (r l : Fin 256) :
    concatenate S256x256 0 [⟨S128x256, x 0⟩, ⟨S128x256, x 1⟩] h (ix2 r l) = x (tile r) (ix2 (rlane r) l) := by
  by_cases hr : r.val < 128
  · rw [show tile r = 0 from Fin.ext (by show r.val / 128 = 0; omega)]
    refine concatenate_pair_apply_left (t := S256x256) 0 (x 0) (x 1) h (ix2 r l) rfl (ix2 (rlane r) l) fun b => ?_
    match b with
    | ⟨0, _⟩ => show r.val % 128 = r.val; omega
    | ⟨1, _⟩ => rfl
  · rw [show tile r = 1 from Fin.ext (by show r.val / 128 = 1; omega)]
    refine concatenate_pair_apply_right (t := S256x256) 0 (x 0) (x 1) h (ix2 r l) rfl rfl (ix2 (rlane r) l) (fun b hb => ?_) ?_
    · match b with
      | ⟨0, _⟩ => exact absurd rfl hb
      | ⟨1, _⟩ => rfl
    · show r.val % 128 + 128 = r.val; omega

/-- The product with the identity turns the codes over: every other term is zero times something, which is zero. -/
theorem turnT_eq (e : Vec Ideal S256x256 .f32) (he : ∀ a b : Fin 256, e (ix2 a b) = if a = b then 1 else 0) (y : Vec Ideal S256x256 .f32)
    (iv : FVec Ideal S2x2048 .f32) (c : Fin 8) (a r : Fin 256) :
    turnT e y iv c (ix2 a r) = min hi (max lo (y (ix2 r a) * iv (ix2 (tile r) (col8 c a)))) := by
  unfold turnT
  refine (Ideal.matmul_transposedRhs_apply (M := 256) (K := 256) (N := 256) none _ _ _ a r).trans ?_
  simp only [ix2_eq]
  rw [show (constant (F := Ideal) S256x256 .f32 0x00000000#32) (ix2 a r) = 0 from ieee_zero, zero_add, Finset.sum_eq_single a]
  · show shapeCast S256x256 e shapeCasts_S256x256_S256x256 (ix2 a a) * _ = _
    rw [shapeCast_self, he, if_pos rfl, one_mul]
    refine (cat_at (fun t => halfT y iv c t) _ r a).trans ?_
    rw [halfT_eq, row2_tile]
  · intro k _ hk
    show shapeCast S256x256 e shapeCasts_S256x256_S256x256 (ix2 a k) * _ = _
    rw [shapeCast_self, he, if_neg (Ne.symm hk), zero_mul]
  · exact fun h => absurd (Finset.mem_univ _) h

theorem ccB_eq {R : Reads Ideal} {f ga be} (H : Holds R f ga be) (e : Vec Ideal S256x256 .f32)
    (he : ∀ a b : Fin 256, e (ix2 a b) = if a = b then 1 else 0) (j : Fin 2048) (r : Fin 256) :
    ccB R e (ix2 j r) = codeOf (yv (f r) ga be j) (colMax (fun i => f (row2 (tile r) i)) ga be j) := by
  show turnT e (yC R ⟨j.val / 256, _⟩) (invT (cmB R)) ⟨j.val / 256, _⟩ (ix2 ⟨j.val % 256, _⟩ r) = _
  have ej : col8 ⟨j.val / 256, by omega⟩ ⟨j.val % 256, by omega⟩ = j := by
    apply Fin.ext; show 256 * (j.val / 256) + j.val % 256 = j.val; omega
  rw [turnT_eq e he, ej, invT_eq, cmB_eq H]
  have ey : yC R ⟨j.val / 256, by omega⟩ (ix2 r ⟨j.val % 256, by omega⟩) = yv (f r) ga be j := by
    refine Eq.trans (congrArg (yB R) ?_) (yB_eq H r j)
    funext a; apply Fin.ext
    match a with
    | ⟨0, _⟩ => show 0 + 1 * r.val = r.val; omega
    | ⟨1, _⟩ => show 256 * (j.val / 256) + 1 * (j.val % 256) = j.val; omega
  rw [ey]
  have h := code_eq (fun i => yv (f (row2 (tile r) i)) ga be j) (rlane r)
  simp only [row2_tile] at h
  exact h

end Cert.KernelIdeal.Own

end
-- ==== Proof.Final.lean ====
module

public import proofs.«01_k».proof.Proof.Obligation
public import proofs.«01_k».proof.Proof.Values
public import Idealize.ShloMosaic.Lib.Pipeline.ArrRel
public import Idealize.ShloMosaic.Lib.StableHlo.RunRead

@[expose] public section

set_option maxRecDepth 16384

noncomputable section

/-! The kernel's six output arrays after the run, at the ideal instance, as functions of the arguments. -/

namespace Cert.KernelIdeal.Own

open Idealize.ShloMosaic Idealize.ShloMosaic.TcCoe
open Idealize.SL.Sem
open Idealize.ShloMosaic.Pipeline (Dat RDat)
open Cert.Spec Cert.KernelIdeal.Gen

variable (m : (ℓ : Loc nD τ sig) → Buf (Elt Ideal) ℓ) (c : Dev nD)

/-! ## What the kernel's host operations leave -/

/-- The rows and the parameters as functions. -/
def rowsK : Fin 36864 → Fin 2048 → EReal := fun n j =>
  (shapeCast S36864x2048 (m (c, Proc.devRef .tc main_arg0) : FVec Ideal S9x4096x2048 .bf16) shapeCasts_S9x4096x2048_S36864x2048 : FVec Ideal S36864x2048 .bf16) (ix2 n j)
def gaK : Fin 2048 → EReal := fun j => (m (c, Proc.devRef .tc main_arg1) : FVec Ideal S2048 .bf16) (ix1 j)
def beK : Fin 2048 → EReal := fun j => (m (c, Proc.devRef .tc main_arg2) : FVec Ideal S2048 .bf16) (ix1 j)

theorem V_v0 (n : Fin 36864) (j : Fin 2048) : (V m c main_v0 : FVec Ideal S36864x2048 .bf16) (ix2 n j) = rowsK m c n j := by
  have h : (V m c main_v0 : FVec Ideal S36864x2048 .bf16)
      = shapeCast S36864x2048 (m (c, Proc.devRef .tc main_arg0) : FVec Ideal S9x4096x2048 .bf16) shapeCasts_S9x4096x2048_S36864x2048 := by
    after_reads_simp; rfl
  rw [h]; rfl

theorem par_pos (j : Fin 2048) : ((⟨1, ![2048]⟩ : Shape).rowMajor (ix1 j)).val = ((⟨2, ![1, 2048]⟩ : Shape).rowMajor (ix2 0 j)).val := by
  rw [Shape.rowMajor_val_two, Shape.rowMajor_val_one]
  show j.val = 0 * 2048 + j.val; omega

theorem V_v2 (j : Fin 2048) : (V m c main_v2 : FVec Ideal S1x2048 .f32) (ix2 0 j) = gaK m c j := by
  have h : (V m c main_v2 : FVec Ideal S1x2048 .f32)
      = shapeCast S1x2048 (m (c, Proc.devRef .tc main_arg1) : FVec Ideal S2048 .bf16) shapeCasts_S2048_S1x2048 := by
    after_reads_simp; rfl
  rw [h, shapeCast_apply _ _ _ (ix1 j) (par_pos j)]; rfl

theorem V_v4 (j : Fin 2048) : (V m c main_v4 : FVec Ideal S1x2048 .f32) (ix2 0 j) = beK m c j := by
  have h : (V m c main_v4 : FVec Ideal S1x2048 .f32)
      = shapeCast S1x2048 (m (c, Proc.devRef .tc main_arg2) : FVec Ideal S2048 .bf16) shapeCasts_S2048_S1x2048 := by
    after_reads_simp; rfl
  rw [h, shapeCast_apply _ _ _ (ix1 j) (par_pos j)]; rfl

theorem V_v10 (a b : Fin 256) : (V m c main_v10 : FVec Ideal S256x256 .f32) (ix2 a b) = (if a = b then 1 else 0 : EReal) := by
  have h : (V m c main_v10 : FVec Ideal S256x256 .f32)
      = (uitofp .f32 (cmpi .eq (addi (iotaInDim S256x256 32 0) (broadcastInDim S256x256 ![] bcast_S_S256x256 (constantI S_ 32 0#32))) (iotaInDim S256x256 32 1)) : FVec Ideal S256x256 .f32) := by
    after_reads_simp
  rw [h]
  have hc : (cmpi .eq (addi (iotaInDim S256x256 32 0) (broadcastInDim S256x256 ![] bcast_S_S256x256 (constantI S_ 32 0#32))) (iotaInDim S256x256 32 1)) (ix2 a b)
      = BitVec.ofBool (BitVec.ofNat 32 a.val + 0#32 == BitVec.ofNat 32 b.val) := rfl
  have he : (BitVec.ofNat 32 a.val + 0#32 == BitVec.ofNat 32 b.val) = decide (a = b) := by
    rw [BitVec.add_zero, Bool.eq_iff_iff, beq_iff_eq, decide_eq_true_iff]
    constructor
    · intro h; apply Fin.ext; have := congrArg BitVec.toNat h
      rw [BitVec.toNat_ofNat, BitVec.toNat_ofNat] at this; omega
    · rintro rfl; rfl
  show (((cmpi .eq (addi (iotaInDim S256x256 32 0) (broadcastInDim S256x256 ![] bcast_S_S256x256 (constantI S_ 32 0#32))) (iotaInDim S256x256 32 1)) (ix2 a b)).toNat : ℝ) = (_ : EReal)
  rw [hc, he]
  by_cases hab : a = b <;> simp [hab]

/-! ## The blocks at a grid point -/

/-- Row `r` of the block at point `t`. -/
def rowAt (t : Fin cfg0.N) (r : Fin 256) : Fin 36864 := ⟨256 * t.val + r.val, by have hN : t.val < 144 := lt_of_lt_of_eq t.isLt N_0; omega⟩

theorem i0 : ∀ t : Fin cfg0.N, win0_0.index t = ![t.val, 0] := (by decide +kernel : ∀ t : Fin grid0.N, win0_0.index t = ![t.val, 0])
theorem i1 : ∀ t : Fin cfg0.N, win0_1.index t = ![0, 0] := (by decide +kernel : ∀ t : Fin grid0.N, win0_1.index t = ![0, 0])
theorem i2 : ∀ t : Fin cfg0.N, win0_2.index t = ![0, 0] := (by decide +kernel : ∀ t : Fin grid0.N, win0_2.index t = ![0, 0])
theorem i3 : ∀ t : Fin cfg0.N, win0_3.index t = ![0, 0] := (by decide +kernel : ∀ t : Fin grid0.N, win0_3.index t = ![0, 0])
theorem i4 : ∀ t : Fin cfg0.N, win0_4.index t = ![t.val, 0] := (by decide +kernel : ∀ t : Fin grid0.N, win0_4.index t = ![t.val, 0])
theorem i5 : ∀ t : Fin cfg0.N, win0_5.index t = ![0, t.val] := (by decide +kernel : ∀ t : Fin grid0.N, win0_5.index t = ![0, t.val])
theorem i6 : ∀ t : Fin cfg0.N, win0_6.index t = ![0, t.val] := (by decide +kernel : ∀ t : Fin grid0.N, win0_6.index t = ![0, t.val])
theorem i7 : ∀ t : Fin cfg0.N, win0_7.index t = ![t.val / 4, 0] := (by decide +kernel : ∀ t : Fin grid0.N, win0_7.index t = ![t.val / 4, 0])
theorem i8 : ∀ t : Fin cfg0.N, win0_8.index t = ![t.val / 4, 0] := (by decide +kernel : ∀ t : Fin grid0.N, win0_8.index t = ![t.val / 4, 0])
theorem i9 : ∀ t : Fin cfg0.N, win0_9.index t = ![t.val / 4, 0] := (by decide +kernel : ∀ t : Fin grid0.N, win0_9.index t = ![t.val / 4, 0])

theorem blk0 (t : Fin cfg0.N) (r : Fin 256) (j : Fin 2048) : (iblk m c 0 t : FVec Ideal S256x2048 .bf16) (ix2 r j) = rowsK m c (rowAt t r) j := by
  refine Eq.trans ?_ (V_v0 m c (rowAt t r) j)
  blk_simp [iblk]
  refine congrArg (V m c main_v0 : FVec Ideal S36864x2048 .bf16) ?_
  blk_ext [i0, rowAt]

theorem blk1 (t : Fin cfg0.N) (j : Fin 2048) : (iblk m c 1 t : FVec Ideal S1x2048 .f32) (ix2 0 j) = gaK m c j := by
  refine Eq.trans ?_ (V_v2 m c j)
  blk_simp [iblk]
  refine congrArg (V m c main_v2 : FVec Ideal S1x2048 .f32) ?_
  blk_ext [i1]

theorem blk2 (t : Fin cfg0.N) (j : Fin 2048) : (iblk m c 2 t : FVec Ideal S1x2048 .f32) (ix2 0 j) = beK m c j := by
  refine Eq.trans ?_ (V_v4 m c j)
  blk_simp [iblk]
  refine congrArg (V m c main_v4 : FVec Ideal S1x2048 .f32) ?_
  blk_ext [i2]

theorem blk3 (t : Fin cfg0.N) (a b : Fin 256) : (iblk m c 3 t : FVec Ideal S256x256 .f32) (ix2 a b) = (if a = b then 1 else 0 : EReal) := by
  refine Eq.trans ?_ (V_v10 m c a b)
  blk_simp [iblk]
  refine congrArg (V m c main_v10 : FVec Ideal S256x256 .f32) ?_
  blk_ext [i3]

theorem holds (t : Fin cfg0.N) : Holds (rdAt m c t) (fun r => rowsK m c (rowAt t r)) (gaK m c) (beK m c) where
  x8 := fun k r l => by
    refine Eq.trans (congrArg (iblk m c 0 t : FVec Ideal S256x2048 .bf16) (Shape.idx_ext₂ ?_ ?_)) (blk0 m c t r (col8 k l))
    · show 0 + 1 * r.val = r.val; omega
    · show 256 * k.val + 1 * l.val = 256 * k.val + l.val; omega
  x16 := fun g r l => by
    refine Eq.trans (congrArg (iblk m c 0 t : FVec Ideal S256x2048 .bf16) (Shape.idx_ext₂ ?_ ?_)) (blk0 m c t r (col16 g l))
    · show 0 + 1 * r.val = r.val; omega
    · show 128 * g.val + 1 * l.val = 128 * g.val + l.val; omega
  hga := fun g l => by
    refine Eq.trans (congrArg (iblk m c 1 t : FVec Ideal S1x2048 .f32) (Shape.idx_ext₂ ?_ ?_)) (blk1 m c t (col16 g l))
    · rfl
    · show 128 * g.val + 1 * l.val = 128 * g.val + l.val; omega
  hbe := fun g l => by
    refine Eq.trans (congrArg (iblk m c 2 t : FVec Ideal S1x2048 .f32) (Shape.idx_ext₂ ?_ ?_)) (blk2 m c t (col16 g l))
    · rfl
    · show 128 * g.val + 1 * l.val = 128 * g.val + l.val; omega

/-- Line `r` of the shared block of point `t`. -/
def lineAt (t : Fin cfg0.N) (r : Fin 8) : Fin 288 := ⟨8 * (t.val / 4) + r.val, by have hN : t.val < 144 := lt_of_lt_of_eq t.isLt N_0; omega⟩

theorem row_tile (t : Fin cfg0.N) (r : Fin 256) (i : Fin 128) : rowAt t (row2 (tile r) i) = rowOf (tileOf (rowAt t r)) i := by
  apply Fin.ext
  show 256 * t.val + (128 * (r.val / 128) + i.val) = 128 * ((256 * t.val + r.val) / 128) + i.val
  omega

theorem row_line (t : Fin cfg0.N) (r : Fin 8) (h : r.val % 2 < 2) (i : Fin 128) : rowAt (ptOf t r.val) (row2 ⟨r.val % 2, h⟩ i) = rowOf (lineAt t r) i := by
  have hN : t.val < 144 := lt_of_lt_of_eq t.isLt N_0
  apply Fin.ext
  show 256 * ((4 * (t.val / 4) + r.val / 2) % 144) + (128 * (r.val % 2) + i.val) = 128 * (8 * (t.val / 4) + r.val) + i.val
  omega

/-- A shared block when it is written back: all its rows are filled. -/
theorem full {α : Type} {n : ℕ} {t : ℕ} {G X : (⟨2, ![8, n]⟩ : Shape).Idx → α} (h : Filled t G X) (ht : t % 4 = 3) : X = G := by
  funext y
  have hy : (y 0).val < 8 := (y 0).isLt
  exact h y (by omega)

/-! ## The arrays -/

section
variable {m c} {after : (w : Fin cfg0.W) → Fin cfg0.N → (cfg0.win w).block.Idx → Elt Ideal (cfg0.win w).elt}
  (hL : ∀ (w : Fin cfg0.W) (u : Fin cfg0.N), (cfg0.win w).flush u = true → (rdat m c).Leaves w u (after w u))
include hL

theorem final4 : ((rdat m c).withAfter after).arrAt 4 cfg0.N = rowCodes (rowsK m c) (gaK m c) (beK m c) := by
  refine Dat.arrAt_eq_of_covers _ 4 _ (by decide +kernel) fun t hf y => ?_
  have h : after 4 t = rcB (rdAt m c t) := (dats m 0 c).toRRel_leaves rfl (hL 4 t hf)
  have ey : (win0_4.blk t).view.emb y = ix2 (rowAt t (y 0)) (y 1) := by blk_ext [i4, rowAt]
  blk_simp
  rw [RDat.withAfter_after, h, ey]
  refine (congrArg (rcB (rdAt m c t)) (eq_ix2 y)).trans ?_
  exact rcB_eq (holds m c t) (y 0) (y 1)

theorem final5 : ((rdat m c).withAfter after).arrAt 5 cfg0.N = rowScales (rowsK m c) (gaK m c) (beK m c) := by
  refine Dat.arrAt_eq_of_covers _ 5 _ (by decide +kernel) fun t hf y => ?_
  have h : after 5 t = rsB (rdAt m c t) := (dats m 0 c).toRRel_leaves rfl (hL 5 t hf)
  have ey : (win0_5.blk t).view.emb y = ix2 (y 0) (rowAt t (y 1)) := by blk_ext [i5, rowAt]
  blk_simp
  rw [RDat.withAfter_after, h, ey]
  refine (congrArg (rsB (rdAt m c t)) (eq_ix2 y)).trans ?_
  exact rsB_eq (holds m c t) (y 0) (y 1)

theorem final6 : ((rdat m c).withAfter after).arrAt 6 cfg0.N = colCodes (rowsK m c) (gaK m c) (beK m c) := by
  refine Dat.arrAt_eq_of_covers _ 6 _ (by decide +kernel) fun t hf y => ?_
  have h : after 6 t = ccB (rdAt m c t) (iblk m c 3 t) := (dats m 0 c).toRRel_leaves rfl (hL 6 t hf)
  have ey : (win0_6.blk t).view.emb y = ix2 (y 0) (rowAt t (y 1)) := by blk_ext [i6, rowAt]
  blk_simp
  rw [RDat.withAfter_after, h, ey]
  refine (congrArg (ccB (rdAt m c t) (iblk m c 3 t)) (eq_ix2 y)).trans ?_
  refine (ccB_eq (holds m c t) _ (blk3 m c t) (y 0) (y 1)).trans ?_
  exact congrArg (fun f => codeOf (yv (rowsK m c (rowAt t (y 1))) (gaK m c) (beK m c) (y 0)) (colMax f (gaK m c) (beK m c) (y 0)))
    (funext fun i => congrArg (rowsK m c) (row_tile t (y 1) i))

theorem final7 : ((rdat m c).withAfter after).arrAt 7 cfg0.N = colScales (rowsK m c) (gaK m c) (beK m c) := by
  refine Dat.arrAt_eq_of_covers _ 7 _ (by decide +kernel) fun t hf y => ?_
  have h : after 7 t = csAt m c t := full ((dats m 0 c).toRRel_leaves rfl (hL 7 t hf)) ((flush0_7 t).mp hf)
  have ey : (win0_7.blk t).view.emb y = ix2 (lineAt t (y 0)) (y 1) := by blk_ext [i7, lineAt]
  blk_simp
  rw [RDat.withAfter_after, h, ey]
  refine (csB_eq (holds m c (ptOf t (y 0).val)) _ (y 1)).trans ?_
  exact congrArg (fun f => scaleOf (colMax f (gaK m c) (beK m c) (y 1))) (funext fun i => congrArg (rowsK m c) (row_line t (y 0) _ i))

theorem final8 : ((rdat m c).withAfter after).arrAt 8 cfg0.N = roots (rowsK m c) := by
  refine Dat.arrAt_eq_of_covers _ 8 _ (by decide +kernel) fun t hf y => ?_
  have h : after 8 t = sgAt m c t := full ((dats m 0 c).toRRel_leaves rfl (hL 8 t hf)) ((flush0_8 t).mp hf)
  have ey : (win0_8.blk t).view.emb y = ix2 (lineAt t (y 0)) (y 1) := by blk_ext [i8, lineAt]
  blk_simp
  rw [RDat.withAfter_after, h, ey]
  refine (lineT_eq _ _ (y 1)).trans ((rsT_eq _ _ _ fun k l => (holds m c (ptOf t (y 0).val)).x8 k _ l).trans ?_)
  exact congrArg (fun n => rsig (rowsK m c n)) (row_line t (y 0) _ (y 1))

theorem final9 : ((rdat m c).withAfter after).arrAt 9 cfg0.N = means (rowsK m c) := by
  refine Dat.arrAt_eq_of_covers _ 9 _ (by decide +kernel) fun t hf y => ?_
  have h : after 9 t = muAt m c t := full ((dats m 0 c).toRRel_leaves rfl (hL 9 t hf)) ((flush0_9 t).mp hf)
  have ey : (win0_9.blk t).view.emb y = ix2 (lineAt t (y 0)) (y 1) := by blk_ext [i9, lineAt]
  blk_simp
  rw [RDat.withAfter_after, h, ey]
  refine (lineT_eq _ _ (y 1)).trans ((muT_eq _ _ _ fun k l => (holds m c (ptOf t (y 0).val)).x8 k _ l).trans ?_)
  exact congrArg (fun n => mean (rowsK m c n)) (row_line t (y 0) _ (y 1))

end

/-- After the run: each result is its function of the arguments. -/
theorem results (r : PUnit × MemSt nD τ sig (Elt Ideal)) (h : RDat.FramePost (cfgs 0) (rdat m) (V m) r) :
    r.2.mem ((c.tc : Thread nD τ).loc main_v11_0) = rowCodes (rowsK m c) (gaK m c) (beK m c)
      ∧ r.2.mem ((c.tc : Thread nD τ).loc main_v11_1) = rowScales (rowsK m c) (gaK m c) (beK m c)
      ∧ r.2.mem ((c.tc : Thread nD τ).loc main_v11_2) = colCodes (rowsK m c) (gaK m c) (beK m c)
      ∧ r.2.mem ((c.tc : Thread nD τ).loc main_v11_3) = colScales (rowsK m c) (gaK m c) (beK m c)
      ∧ r.2.mem ((c.tc : Thread nD τ).loc main_v11_4) = roots (rowsK m c)
      ∧ r.2.mem ((c.tc : Thread nD τ).loc main_v11_5) = means (rowsK m c) := by
  obtain ⟨after, hL, hA⟩ := h.exists_exact c
  exact ⟨(hA 4).trans (final4 hL), (hA 5).trans (final5 hL), (hA 6).trans (final6 hL), (hA 7).trans (final7 hL), (hA 8).trans (final8 hL), (hA 9).trans (final9 hL)⟩

end Cert.KernelIdeal.Own

end
-- ==== Proof.Reference.lean ====
module

public import proofs.«01_k».proof.Proof.Quant
public import proofs.«01_k».proof.Proof.Whole
public import proofs.«01_k».proof.Proof.Gen.ReferenceIdeal.Frame
public import Idealize.ShloMosaic.Lib.StableHlo.RunRead

@[expose] public section

set_option maxRecDepth 16384

noncomputable section

/-! What the reference's host operations leave in its arrays, over the extended reals, entry by entry: the row
    statistics, the normalised values, the scales and the codes of `Spec`. -/

namespace Cert.ReferenceIdeal.Own

open Idealize.ShloMosaic Idealize.ShloMosaic.TcCoe
open Cert.ReferenceIdeal Cert.ReferenceIdeal.Gen Cert.Spec

/-! ## The row statistics and the normalised values -/

/-- The row means, as the reference computes them. -/
def muR (x : FVec Ideal S36864x2048 .f32) : FVec Ideal S36864 .f32 :=
  Host.divf (Host.reduceAdd x (constant S_ .f32 0x00000000#32) reducesTo_S36864x2048_S36864_d1 h_S_)
    (broadcastInDim S36864 ![] bcast_S_S36864 (constant S_ .f32 0x45000000#32))
/-- A value of each row spread along it, and a value of each column spread down it. -/
def colR (v : FVec Ideal S36864 .f32) : FVec Ideal S36864x2048 .f32 :=
  broadcastInDim S36864x2048 ![0, 1] bcast_S36864x1_S36864x2048_0_1 (broadcastInDim S36864x1 ![0] bcast_S36864_S36864x1_0 v)
def parR (v : FVec Ideal S2048 .f32) : FVec Ideal S36864x2048 .f32 :=
  broadcastInDim S36864x2048 ![0, 1] bcast_S1x2048_S36864x2048_0_1 (broadcastInDim S1x2048 ![1] bcast_S2048_S1x2048_1 v)
/-- The distances from the mean. -/
def devR (x : FVec Ideal S36864x2048 .f32) : FVec Ideal S36864x2048 .f32 := subf x (colR (muR x))
/-- The reciprocal roots of the variances. -/
def rsR (x : FVec Ideal S36864x2048 .f32) : FVec Ideal S36864 .f32 :=
  Host.rsqrt (addf (muR (mulf (devR x) (devR x))) (broadcastInDim S36864 ![] bcast_S_S36864 (constant S_ .f32 0x3727C5AC#32)))
/-- The normalised values. -/
def yR (x : FVec Ideal S36864x2048 .f32) (ga be : FVec Ideal S2048 .f32) : FVec Ideal S36864x2048 .f32 :=
  addf (mulf (mulf (devR x) (colR (rsR x))) (parR ga)) (parR be)

theorem ieee_2048 : Ideal.ofBits .f32 0x45000000#32 = ((2048 : ℝ) : EReal) := (ieee_pat 138 (by omega)).trans (by unfold val; norm_num)

theorem div_2048 (s : EReal) : Ideal.div s ((2048 : ℝ) : EReal) = s * (((2048 : ℝ)⁻¹ : ℝ) : EReal) := by
  unfold Ideal.div
  rw [if_neg (by rw [EReal.coe_eq_zero]; norm_num), EReal.coe_inv]

theorem muR_at (x : FVec Ideal S36864x2048 .f32) (n : Fin 36864) : muR x (ix1 n) = mean fun j => x (ix2 n j) := by
  unfold muR
  show Ideal.div (Ideal.hostReduceAdd reducesTo_S36864x2048_S36864_d1 x (Ideal.ofBits .f32 0x00000000#32) (ix1 n)) (Ideal.ofBits .f32 0x45000000#32) = _
  have h' : S36864x2048.Reduces [1] S36864 := ⟨reducesTo_S36864x2048_S36864_d1.1, by show 0 < 1; omega, reducesTo_S36864x2048_S36864_d1.2⟩
  rw [ieee_2048, ieee_zero, div_2048, Ideal.hostReduceAdd_single _ h', zero_add]
  unfold mean
  congr 1
  refine Finset.sum_congr rfl fun (j : Fin 2048) _ => congrArg x ?_
  funext a; apply Fin.ext; match a with | ⟨0, _⟩ => rfl | ⟨1, _⟩ => rfl

theorem colR_at (v : FVec Ideal S36864 .f32) (n : Fin 36864) (j : Fin 2048) : colR v (ix2 n j) = v (ix1 n) := by
  unfold colR
  rw [bid_at _ _ (ix2 n j) (ix2 n 0) (fun a => by match a with | ⟨0, _⟩ => rfl | ⟨1, _⟩ => rfl),
    bid_at _ _ (ix2 n 0) (ix1 n) (fun a => by match a with | ⟨0, _⟩ => rfl)]

theorem parR_at (v : FVec Ideal S2048 .f32) (n : Fin 36864) (j : Fin 2048) : parR v (ix2 n j) = v (ix1 j) := by
  unfold parR
  rw [bid_at _ _ (ix2 n j) (ix2 0 j) (fun a => by match a with | ⟨0, _⟩ => rfl | ⟨1, _⟩ => rfl),
    bid_at _ _ (ix2 0 j) (ix1 j) (fun a => by match a with | ⟨0, _⟩ => rfl)]

theorem devR_at (x : FVec Ideal S36864x2048 .f32) (n : Fin 36864) (j : Fin 2048) :
    devR x (ix2 n j) = x (ix2 n j) - mean fun j => x (ix2 n j) := by
  show x (ix2 n j) - colR (muR x) (ix2 n j) = _
  rw [colR_at, muR_at]

theorem rsR_at (x : FVec Ideal S36864x2048 .f32) (n : Fin 36864) : rsR x (ix1 n) = rsig fun j => x (ix2 n j) := by
  show Ideal.rsqrt (muR (mulf (devR x) (devR x)) (ix1 n) + Ideal.ofBits .f32 0x3727C5AC#32) = _
  rw [muR_at]
  unfold rsig
  congr 2
  refine congrArg mean (funext fun j => ?_)
  show devR x (ix2 n j) * devR x (ix2 n j) = _
  rw [devR_at]

theorem yR_at (x : FVec Ideal S36864x2048 .f32) (ga be : FVec Ideal S2048 .f32) (n : Fin 36864) (j : Fin 2048) :
    yR x ga be (ix2 n j) = yv (fun j => x (ix2 n j)) (fun j => ga (ix1 j)) (fun j => be (ix1 j)) j := by
  show devR x (ix2 n j) * colR (rsR x) (ix2 n j) * parR ga (ix2 n j) + parR be (ix2 n j) = _
  rw [devR_at, colR_at, parR_at, parR_at, rsR_at]
  rfl

/-! ## The arrays after the host operations -/

section
variable (W : Valuation τ sig (Elt Ideal))

/-- The contents of an array after the host operations. -/
abbrev fin (b : Ref sig .tc) := StableHlo.after (hostOps0 (F := Ideal)) W (Proc.devRef .tc b)

/-- The rows. -/
def xW : FVec Ideal S36864x2048 .f32 := shapeCast S36864x2048 (W (Proc.devRef .tc main_arg0) : FVec Ideal S9x4096x2048 .f32) shapeCasts_S9x4096x2048_S36864x2048

theorem scaleRow : ScaleFacts 36864 16 := ⟨bcast_S_S36864x16, bcast_S253_S36864x16x253_2, bcast_S36864x16_S36864x16x1_0_1,
  bcast_S36864x16x1_S36864x16x253_0_1_2, bcast_S_S36864x16x253, reducesTo_S36864x16x253_S36864x16_d2⟩
theorem codeRow : CodeFacts 36864 16 := ⟨bcast_S_S36864x16, bcast_S36864x16_S36864x16x1_0_1, bcast_S36864x16x1_S36864x16x128_0_1_2, bcast_S_S36864x16x128⟩
theorem scaleCol : ScaleFacts 2048 288 := ⟨bcast_S_S2048x288, bcast_S253_S2048x288x253_2, bcast_S2048x288_S2048x288x1_0_1,
  bcast_S2048x288x1_S2048x288x253_0_1_2, bcast_S_S2048x288x253, reducesTo_S2048x288x253_S2048x288_d2⟩
theorem codeCol : CodeFacts 2048 288 := ⟨bcast_S_S2048x288, bcast_S2048x288_S2048x288x1_0_1, bcast_S2048x288x1_S2048x288x128_0_1_2, bcast_S_S2048x288x128⟩

set_option maxHeartbeats 4000000
theorem fin_v4 : fin W main_v4 = muR (xW W) := by unfold fin; after_reads_simp; rfl
theorem fin_v14 : fin W main_v14 = rsR (xW W) := by unfold fin; after_reads_simp; rfl
theorem fin_v25 : fin W main_v25 = yR (xW W) (W (Proc.devRef .tc main_arg1)) (W (Proc.devRef .tc main_arg2)) := by unfold fin; after_reads_simp; rfl
theorem fin_v26 : fin W main_v26 = shapeCast S36864x16x128 (fin W main_v25 : FVec Ideal S36864x2048 .f32) shapeCasts_S36864x2048_S36864x16x128 := by
  unfold fin; after_reads_simp; rfl
theorem fin_v28 : fin W main_v28 = ampR (n := 36864) (g := 16) (fin W main_v26) reducesTo_S36864x16x128_S36864x16_d2 := by
  unfold fin; after_reads_simp; rfl
theorem fin_v46 : fin W main_v46 = sclR (n := 36864) (g := 16) (fin W main_v28) scaleRow := by
  unfold fin; after_reads_simp; rfl
theorem fin_v55 : fin W main_v55 = codR (n := 36864) (g := 16) (fin W main_v26) (fin W main_v46) codeRow := by
  unfold fin; after_reads_simp; rfl
theorem fin_v56 : fin W main_v56 = shapeCast S36864x2048 (fin W main_v55 : FVec Ideal S36864x16x128 .f32) shapeCasts_S36864x16x128_S36864x2048 := by
  unfold fin; after_reads_simp; rfl
theorem fin_v58 : fin W main_v58 = shapeCast S2048x288x128 (transpose S2048x36864 [1, 0] (fin W main_v25 : FVec Ideal S36864x2048 .f32)
    transposes_S36864x2048_S2048x36864_1_0) shapeCasts_S2048x36864_S2048x288x128 := by
  unfold fin; after_reads_simp; rfl
theorem fin_v60 : fin W main_v60 = ampR (n := 2048) (g := 288) (fin W main_v58) reducesTo_S2048x288x128_S2048x288_d2 := by
  unfold fin; after_reads_simp; rfl
theorem fin_v78 : fin W main_v78 = sclR (n := 2048) (g := 288) (fin W main_v60) scaleCol := by
  unfold fin; after_reads_simp; rfl
theorem fin_v87 : fin W main_v87 = codR (n := 2048) (g := 288) (fin W main_v58) (fin W main_v78) codeCol := by
  unfold fin; after_reads_simp; rfl
theorem fin_v88 : fin W main_v88 = shapeCast S2048x36864 (fin W main_v87 : FVec Ideal S2048x288x128 .f32) shapeCasts_S2048x288x128_S2048x36864 := by
  unfold fin; after_reads_simp; rfl
theorem fin_v89 : fin W main_v89 = transpose S16x36864 [1, 0] (fin W main_v46 : FVec Ideal S36864x16 .f32) transposes_S36864x16_S16x36864_1_0 := by
  unfold fin; after_reads_simp
theorem fin_v90 : fin W main_v90 = transpose S288x2048 [1, 0] (fin W main_v78 : FVec Ideal S2048x288 .f32) transposes_S2048x288_S288x2048_1_0 := by
  unfold fin; after_reads_simp
theorem fin_v91 : fin W main_v91 = shapeCast S288x128 (fin W main_v4 : FVec Ideal S36864 .f32) shapeCasts_S36864_S288x128 := by
  unfold fin; after_reads_simp; rfl
theorem fin_v92 : fin W main_v92 = shapeCast S288x128 (fin W main_v14 : FVec Ideal S36864 .f32) shapeCasts_S36864_S288x128 := by
  unfold fin; after_reads_simp; rfl

/-! ## Entry by entry -/

/-- The rows and the parameters as functions. -/
def rowsW : Fin 36864 → Fin 2048 → EReal := fun n j => xW W (ix2 n j)
def gaW : Fin 2048 → EReal := fun j => (W (Proc.devRef .tc main_arg1) : FVec Ideal S2048 .f32) (ix1 j)
def beW : Fin 2048 → EReal := fun j => (W (Proc.devRef .tc main_arg2) : FVec Ideal S2048 .f32) (ix1 j)

theorem v25_at (n : Fin 36864) (j : Fin 2048) : (fin W main_v25 : FVec Ideal S36864x2048 .f32) (ix2 n j) = yv (rowsW W n) (gaW W) (beW W) j := by
  rw [fin_v25]; exact yR_at _ _ _ n j

theorem v26_at (n : Fin 36864) (g : Fin 16) (l : Fin 128) :
    (fin W main_v26 : FVec Ideal S36864x16x128 .f32) (ix3 n g l) = yv (rowsW W n) (gaW W) (beW W) (col16 g l) := by
  rw [fin_v26, shapeCast_apply _ _ _ (ix2 n (col16 g l)) (by
    rw [Shape.rowMajor_val_two, Shape.rowMajor_val_three]
    show n.val * 2048 + (128 * g.val + l.val) = (n.val * 16 + g.val) * 128 + l.val; omega)]
  exact v25_at W n _

theorem v28_at (n : Fin 36864) (g : Fin 16) : (fin W main_v28 : FVec Ideal S36864x16 .f32) (ix2 n g) = rowMax (rowsW W n) (gaW W) (beW W) g := by
  rw [fin_v28]
  refine (ampR_at _ _ n g).trans (congrArg amax (funext fun l => v26_at W n g l))

theorem v46_at (n : Fin 36864) (g : Fin 16) :
    (fin W main_v46 : FVec Ideal S36864x16 .f32) (ix2 n g) = scaleOf (rowMax (rowsW W n) (gaW W) (beW W) g) := by
  rw [fin_v46]
  exact (sclR_at _ _ n g).trans (congrArg scaleOf (v28_at W n g))

theorem v56_eq : (fin W main_v56 : FVec Ideal S36864x2048 .f32) = rowCodes (rowsW W) (gaW W) (beW W) := by
  funext i
  obtain ⟨n, j, rfl⟩ : ∃ (n : Fin 36864) (j : Fin 2048), i = ix2 n j := ⟨i 0, i 1, eq_ix2 i⟩
  have ej : col16 (grpOf j) ⟨j.val % 128, by omega⟩ = j := by
    apply Fin.ext; show 128 * (j.val / 128) + j.val % 128 = j.val; omega
  rw [fin_v56, shapeCast_apply _ _ _ (ix3 n (grpOf j) ⟨j.val % 128, by omega⟩) (by
    rw [Shape.rowMajor_val_two, Shape.rowMajor_val_three]
    show (n.val * 16 + j.val / 128) * 128 + j.val % 128 = n.val * 2048 + j.val; omega), fin_v55]
  refine (codR_at _ _ _ n (grpOf j) _ _ (v46_at W n (grpOf j))).trans ?_
  rw [v26_at, ej]
  rfl

theorem v58_at (j : Fin 2048) (s : Fin 288) (l : Fin 128) :
    (fin W main_v58 : FVec Ideal S2048x288x128 .f32) (ix3 j s l) = yv (rowsW W (rowOf s l)) (gaW W) (beW W) j := by
  rw [fin_v58, shapeCast_apply _ _ _ (ix2 j (rowOf s l)) (by
    rw [Shape.rowMajor_val_two, Shape.rowMajor_val_three]
    show j.val * 36864 + (128 * s.val + l.val) = (j.val * 288 + s.val) * 128 + l.val; omega),
    transpose_apply _ _ _ _ (ix2 (rowOf s l) j) (fun a => by match a with | ⟨0, _⟩ => rfl | ⟨1, _⟩ => rfl)]
  exact v25_at W _ j

theorem v60_at (j : Fin 2048) (s : Fin 288) :
    (fin W main_v60 : FVec Ideal S2048x288 .f32) (ix2 j s) = colMax (fun k => rowsW W (rowOf s k)) (gaW W) (beW W) j := by
  rw [fin_v60]
  refine (ampR_at _ _ j s).trans (congrArg amax (funext fun l => v58_at W j s l))

theorem v78_at (j : Fin 2048) (s : Fin 288) :
    (fin W main_v78 : FVec Ideal S2048x288 .f32) (ix2 j s) = scaleOf (colMax (fun k => rowsW W (rowOf s k)) (gaW W) (beW W) j) := by
  rw [fin_v78]
  exact (sclR_at _ _ j s).trans (congrArg scaleOf (v60_at W j s))

theorem v88_eq : (fin W main_v88 : FVec Ideal S2048x36864 .f32) = colCodes (rowsW W) (gaW W) (beW W) := by
  funext i
  obtain ⟨j, n, rfl⟩ : ∃ (j : Fin 2048) (n : Fin 36864), i = ix2 j n := ⟨i 0, i 1, eq_ix2 i⟩
  have en : rowOf (tileOf n) ⟨n.val % 128, by omega⟩ = n := by
    apply Fin.ext; show 128 * (n.val / 128) + n.val % 128 = n.val; omega
  rw [fin_v88, shapeCast_apply _ _ _ (ix3 j (tileOf n) ⟨n.val % 128, by omega⟩) (by
    rw [Shape.rowMajor_val_two, Shape.rowMajor_val_three]
    show (j.val * 288 + n.val / 128) * 128 + n.val % 128 = j.val * 36864 + n.val; omega), fin_v87]
  refine (codR_at _ _ _ j (tileOf n) _ _ (v78_at W j (tileOf n))).trans ?_
  rw [v58_at, en]
  rfl

theorem v89_eq : (fin W main_v89 : FVec Ideal S16x36864 .f32) = rowScales (rowsW W) (gaW W) (beW W) := by
  funext i
  obtain ⟨g, n, rfl⟩ : ∃ (g : Fin 16) (n : Fin 36864), i = ix2 g n := ⟨i 0, i 1, eq_ix2 i⟩
  rw [fin_v89, transpose_apply _ _ _ _ (ix2 n g) (fun a => by match a with | ⟨0, _⟩ => rfl | ⟨1, _⟩ => rfl)]
  exact v46_at W n g

theorem v90_eq : (fin W main_v90 : FVec Ideal S288x2048 .f32) = colScales (rowsW W) (gaW W) (beW W) := by
  funext i
  obtain ⟨s, j, rfl⟩ : ∃ (s : Fin 288) (j : Fin 2048), i = ix2 s j := ⟨i 0, i 1, eq_ix2 i⟩
  rw [fin_v90, transpose_apply _ _ _ _ (ix2 j s) (fun a => by match a with | ⟨0, _⟩ => rfl | ⟨1, _⟩ => rfl)]
  exact v78_at W j s

theorem line_pos (s : Fin 288) (l : Fin 128) :
    ((⟨1, ![36864]⟩ : Shape).rowMajor (ix1 (rowOf s l))).val = ((⟨2, ![288, 128]⟩ : Shape).rowMajor (ix2 s l)).val := by
  rw [Shape.rowMajor_val_two, Shape.rowMajor_val_one]
  show 128 * s.val + l.val = s.val * 128 + l.val; omega

theorem v91_eq : (fin W main_v91 : FVec Ideal S288x128 .f32) = means (rowsW W) := by
  funext i
  obtain ⟨s, l, rfl⟩ : ∃ (s : Fin 288) (l : Fin 128), i = ix2 s l := ⟨i 0, i 1, eq_ix2 i⟩
  rw [fin_v91, shapeCast_apply _ _ _ (ix1 (rowOf s l)) (line_pos s l), fin_v4]
  exact muR_at _ _

theorem v92_eq : (fin W main_v92 : FVec Ideal S288x128 .f32) = roots (rowsW W) := by
  funext i
  obtain ⟨s, l, rfl⟩ : ∃ (s : Fin 288) (l : Fin 128), i = ix2 s l := ⟨i 0, i 1, eq_ix2 i⟩
  rw [fin_v92, shapeCast_apply _ _ _ (ix1 (rowOf s l)) (line_pos s l), fin_v14]
  exact rsR_at _ _

end

end Cert.ReferenceIdeal.Own

end
-- ==== Proof.ReferenceFinal.lean ====
module

public import proofs.«01_k».proof.Proof.Reference
public import proofs.«01_k».proof.Proof.Gen.ReferenceIdeal.Value
public import Idealize.ShloMosaic.Lib.Pipeline.ArrRel

@[expose] public section

set_option maxRecDepth 16384

noncomputable section

/-! What a finished run of the reference leaves in its six results, over the extended reals. The last call only
    rounds two arrays, which over the extended reals changes nothing. -/

namespace Cert.ReferenceIdeal.Own

open Idealize.ShloMosaic Idealize.ShloMosaic.TcCoe Idealize.SL.Sem
open Idealize.ShloMosaic.Pipeline (Dat)
open Cert.ReferenceIdeal Cert.ReferenceIdeal.Gen Cert.Spec

variable (m : (ℓ : Loc nD τ sig) → Buf (Elt Ideal) ℓ) (c : Dev nD)

/-- A device's arrays as the run finds them. -/
abbrev startW : (b : DevRef τ sig) → Buf (Elt Ideal) (c, b) := fun b => m (c, b)

theorem i0 : ∀ t : Fin cfg0.N, win0_0.index t = ![0, 0] := (by decide +kernel : ∀ t : Fin grid0.N, win0_0.index t = ![0, 0])
theorem i1 : ∀ t : Fin cfg0.N, win0_1.index t = ![0, 0] := (by decide +kernel : ∀ t : Fin grid0.N, win0_1.index t = ![0, 0])
theorem i2 : ∀ t : Fin cfg0.N, win0_2.index t = ![0, 0] := (by decide +kernel : ∀ t : Fin grid0.N, win0_2.index t = ![0, 0])
theorem i3 : ∀ t : Fin cfg0.N, win0_3.index t = ![0, 0] := (by decide +kernel : ∀ t : Fin grid0.N, win0_3.index t = ![0, 0])

theorem V_fin (b : Ref sig .tc) : V m c b = fin (startW m c) b := rfl

theorem ld0 (B : Vec Ideal S36864x2048 .f32) (y : S36864x2048.Idx) : View.ld B r0_0 (Value.ix2_0 y) = B y :=
  congrArg B (Shape.idx_ext₂ (show 0 + 1 * (y 0).val = (y 0).val by omega) (show 0 + 1 * (y 1).val = (y 1).val by omega))
theorem ld1 (B : Vec Ideal S2048x36864 .f32) (y : S2048x36864.Idx) : View.ld B r0_1 (Value.ix3_0 y) = B y :=
  congrArg B (Shape.idx_ext₂ (show 0 + 1 * (y 0).val = (y 0).val by omega) (show 0 + 1 * (y 1).val = (y 1).val by omega))

theorem out2 (A : Vec Ideal S36864x2048 .f32) (B : Vec Ideal S2048x36864 .f32) (y : S36864x2048.Idx) : out0_2 A B y = A y := by
  rw [out0_2, Value.canon2_eq]
  exact ld0 A y
theorem out3 (A : Vec Ideal S36864x2048 .f32) (B : Vec Ideal S2048x36864 .f32) (y : S2048x36864.Idx) : out0_3 A B y = B y := by
  rw [out0_3, Value.canon3_eq]
  exact ld1 B y

theorem in0 (t : Fin cfg0.N) (y : S36864x2048.Idx) : (iblk m c 0 t : FVec Ideal S36864x2048 .f32) y = (V m c main_v56 : FVec Ideal S36864x2048 .f32) y := by
  blk_simp [iblk]
  refine congrArg (V m c main_v56 : FVec Ideal S36864x2048 .f32) ?_
  blk_ext [i0]

theorem in1 (t : Fin cfg0.N) (y : S2048x36864.Idx) : (iblk m c 1 t : FVec Ideal S2048x36864 .f32) y = (V m c main_v88 : FVec Ideal S2048x36864 .f32) y := by
  blk_simp [iblk]
  refine congrArg (V m c main_v88 : FVec Ideal S2048x36864 .f32) ?_
  blk_ext [i1]

theorem cast2 : (dats m 0 c).arrAt 2 cfg0.N = (V m c main_v56 : FVec Ideal S36864x2048 .f32) := by
  refine Dat.arrAt_eq_of_covers _ 2 _ (by decide +kernel) fun t hf y => ?_
  have ey : (win0_2.blk t).view.emb y = y := by blk_ext [i2]
  blk_simp
  rw [after0_2, ey]
  exact (out2 _ _ y).trans (in0 m c t y)

theorem cast3 : (dats m 0 c).arrAt 3 cfg0.N = (V m c main_v88 : FVec Ideal S2048x36864 .f32) := by
  refine Dat.arrAt_eq_of_covers _ 3 _ (by decide +kernel) fun t hf y => ?_
  have ey : (win0_3.blk t).view.emb y = y := by blk_ext [i3]
  blk_simp
  rw [after0_3, ey]
  exact (out3 _ _ y).trans (in1 m c t y)

/-- After the run: each result is its function of the arguments. -/
theorem results (r : PUnit × MemSt nD τ sig (Elt Ideal)) (h : Pipeline.FramePost cfgs (dats m) 0 (V m) r) :
    r.2.mem ((c.tc : Thread nD τ).loc main_v93_0) = rowCodes (rowsW (startW m c)) (gaW (startW m c)) (beW (startW m c))
      ∧ r.2.mem ((c.tc : Thread nD τ).loc main_v89) = rowScales (rowsW (startW m c)) (gaW (startW m c)) (beW (startW m c))
      ∧ r.2.mem ((c.tc : Thread nD τ).loc main_v93_1) = colCodes (rowsW (startW m c)) (gaW (startW m c)) (beW (startW m c))
      ∧ r.2.mem ((c.tc : Thread nD τ).loc main_v90) = colScales (rowsW (startW m c)) (gaW (startW m c)) (beW (startW m c))
      ∧ r.2.mem ((c.tc : Thread nD τ).loc main_v92) = roots (rowsW (startW m c))
      ∧ r.2.mem ((c.tc : Thread nD τ).loc main_v91) = means (rowsW (startW m c)) :=
  ⟨(Value.post2 m r h c).trans ((cast2 m c).trans ((V_fin m c main_v56).trans (v56_eq (startW m c)))),
    ((h c).2 main_v89 (Pipeline.mem_restRefs_of main_v89 (by decide) (by decide))).trans ((V_fin m c main_v89).trans (v89_eq (startW m c))),
    (Value.post3 m r h c).trans ((cast3 m c).trans ((V_fin m c main_v88).trans (v88_eq (startW m c)))),
    ((h c).2 main_v90 (Pipeline.mem_restRefs_of main_v90 (by decide) (by decide))).trans ((V_fin m c main_v90).trans (v90_eq (startW m c))),
    ((h c).2 main_v92 (Pipeline.mem_restRefs_of main_v92 (by decide) (by decide))).trans ((V_fin m c main_v92).trans (v92_eq (startW m c))),
    ((h c).2 main_v91 (Pipeline.mem_restRefs_of main_v91 (by decide) (by decide))).trans ((V_fin m c main_v91).trans (v91_eq (startW m c)))⟩

end Cert.ReferenceIdeal.Own

end
-- ==== Proof.Agree.lean ====
module

public import proofs.«01_k».proof.Proof.Final
public import proofs.«01_k».proof.Proof.ReferenceFinal

@[expose] public section

set_option maxRecDepth 16384

noncomputable section

/-! From equal arguments the kernel and the reference work on the same rows, weights and offsets. -/

namespace Cert.Agree

open Idealize.ShloMosaic Idealize.ShloMosaic.TcCoe
open Cert.Spec

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD)

theorem rows (h : m' ((c.tc : Thread ReferenceIdeal.nD ReferenceIdeal.τ).loc ReferenceIdeal.main_arg0) = m ((c.tc : Thread KernelIdeal.nD KernelIdeal.τ).loc KernelIdeal.main_arg0)) :
    ReferenceIdeal.Own.rowsW (ReferenceIdeal.Own.startW m' c) = KernelIdeal.Own.rowsK m c :=
  congrArg (fun a : FVec Ideal KernelIdeal.S9x4096x2048 .bf16 => fun (n : Fin 36864) (j : Fin 2048) =>
    (shapeCast KernelIdeal.S36864x2048 a KernelIdeal.Gen.shapeCasts_S9x4096x2048_S36864x2048 : FVec Ideal KernelIdeal.S36864x2048 .bf16) (ix2 n j)) h

theorem weights (h : m' ((c.tc : Thread ReferenceIdeal.nD ReferenceIdeal.τ).loc ReferenceIdeal.main_arg1) = m ((c.tc : Thread KernelIdeal.nD KernelIdeal.τ).loc KernelIdeal.main_arg1)) :
    ReferenceIdeal.Own.gaW (ReferenceIdeal.Own.startW m' c) = KernelIdeal.Own.gaK m c :=
  congrArg (fun a : FVec Ideal KernelIdeal.S2048 .bf16 => fun j : Fin 2048 => a (ix1 j)) h

theorem offsets (h : m' ((c.tc : Thread ReferenceIdeal.nD ReferenceIdeal.τ).loc ReferenceIdeal.main_arg2) = m ((c.tc : Thread KernelIdeal.nD KernelIdeal.τ).loc KernelIdeal.main_arg2)) :
    ReferenceIdeal.Own.beW (ReferenceIdeal.Own.startW m' c) = KernelIdeal.Own.beK m c :=
  congrArg (fun a : FVec Ideal KernelIdeal.S2048 .bf16 => fun j : Fin 2048 => a (ix1 j)) h

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel's own run: its program is the idealization's under another name. -/
theorem kernel_frame : quiescent_Kernel (hKernel := Cert.Kernel.Gen.facts) := by
  intro m g _
  show θ_run (@Cert.Kernel.defs Bits _ _) (onTc (τ := Cert.Kernel.τ) (@Cert.Kernel.main Bits _ _)) ⟨m, fun _ => 0, g⟩ _
  rw [Cert.Same.defs_eq, Cert.Same.main_eq]
  exact Cert.KernelIdeal.Own.frame (F := Bits) m g

/-- The kernel's results and the reference's are the same functions of equal arguments. -/
theorem value : algebraic_KernelIdeal_ReferenceIdeal (hKernelIdeal := Cert.KernelIdeal.Gen.facts) (hReferenceIdeal := Cert.ReferenceIdeal.Gen.facts) := by
  intro m g m' g' _ hargs
  refine ⟨fun c => Spec.rowCodes (KernelIdeal.Own.rowsK m c) (KernelIdeal.Own.gaK m c) (KernelIdeal.Own.beK m c),
    fun c => Spec.rowScales (KernelIdeal.Own.rowsK m c) (KernelIdeal.Own.gaK m c) (KernelIdeal.Own.beK m c),
    fun c => Spec.colCodes (KernelIdeal.Own.rowsK m c) (KernelIdeal.Own.gaK m c) (KernelIdeal.Own.beK m c),
    fun c => Spec.colScales (KernelIdeal.Own.rowsK m c) (KernelIdeal.Own.gaK m c) (KernelIdeal.Own.beK m c),
    fun c => Spec.roots (KernelIdeal.Own.rowsK m c), fun c => Spec.means (KernelIdeal.Own.rowsK m c), ?_, ?_⟩
  · refine (θ_run _ _ _).mono (fun r h c => ?_) (KernelIdeal.Own.run_main (F := Ideal) m g)
    obtain ⟨h0, h1, h2, h3, h4, h5⟩ := KernelIdeal.Own.results m c r h
    exact ⟨h0, h1, h2, h3, h4, h5, KernelIdeal.Own.unchanged_of m r h c⟩
  · refine (θ_run _ _ _).mono (fun r h c => ?_) (ReferenceIdeal.Gen.run_main (F := Ideal) m' g')
    obtain ⟨h0, h1, h2, h3, h4, h5⟩ := ReferenceIdeal.Own.results m' c r h
    rw [Agree.rows m m' c (hargs c).1, Agree.weights m m' c (hargs c).2.1, Agree.offsets m m' c (hargs c).2.2] at h0 h1 h2 h3
    rw [Agree.rows m m' c (hargs c).1] at h4 h5
    exact ⟨h0, h1, h2, h3, h4, h5, ReferenceIdeal.Value.kept_main_arg0 m' r h c, ReferenceIdeal.Value.kept_main_arg1 m' r h c,
      ReferenceIdeal.Value.kept_main_arg2 m' r h c⟩

theorem claim : Cert.Claim := ⟨Cert.Kernel.Gen.facts, Cert.KernelIdeal.Gen.facts, Cert.ReferenceIdeal.Gen.facts,
  kernel_frame, fun m g _ => Cert.KernelIdeal.Own.frame m g, fun m g _ => Cert.ReferenceIdeal.Gen.frame m g, trivial, value⟩

end Cert.Proof

end
